-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v48)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v48) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v103) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x2048 : Shape := ⟨2, ![16384, 2048]⟩
abbrev S4x4096 : Shape := ⟨2, ![4, 4096]⟩
abbrev S1x2048x13392 : Shape := ⟨3, ![1, 2048, 13392]⟩
abbrev S2048x13392 : Shape := ⟨2, ![2048, 13392]⟩
abbrev S13392x2048 : Shape := ⟨2, ![13392, 2048]⟩
abbrev S64 : Shape := ⟨1, ![64]⟩
abbrev S_ : Shape := ⟨0, ![]⟩
abbrev S128 : Shape := ⟨1, ![128]⟩
abbrev S1x128 : Shape := ⟨2, ![1, 128]⟩
abbrev S8x2x1024x1 : Shape := ⟨4, ![8, 2, 1024, 1]⟩
abbrev S8x1x1024x1 : Shape := ⟨4, ![8, 1, 1024, 1]⟩
abbrev S8x1024x1 : Shape := ⟨3, ![8, 1024, 1]⟩
abbrev S8x1024x64 : Shape := ⟨3, ![8, 1024, 64]⟩
abbrev S8x1024x128 : Shape := ⟨3, ![8, 1024, 128]⟩
abbrev S8192x128 : Shape := ⟨2, ![8192, 128]⟩
abbrev S2048x2048 : Shape := ⟨2, ![2048, 2048]⟩
abbrev S512x2048 : Shape := ⟨2, ![512, 2048]⟩
abbrev S1024x128 : Shape := ⟨2, ![1024, 128]⟩
abbrev S2048x512 : Shape := ⟨2, ![2048, 512]⟩
abbrev S2048x128 : Shape := ⟨2, ![2048, 128]⟩

abbrev nBuf : Space → Nat
  | .hbm => 25
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S4x4096, .i32⟩
  | .hbm, ⟨2, _⟩ => ⟨S1x2048x13392, .f32⟩
  | .hbm, ⟨3, _⟩ => ⟨S2048x13392, .f32⟩
  | .hbm, ⟨4, _⟩ => ⟨S13392x2048, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S1x128, .f32⟩
  | .hbm, ⟨15, _⟩ => ⟨S8x2x1024x1, .i32⟩
  | .hbm, ⟨16, _⟩ => ⟨S8x1x1024x1, .i32⟩
  | .hbm, ⟨17, _⟩ => ⟨S8x1024x1, .i32⟩
  | .hbm, ⟨18, _⟩ => ⟨S8x1024x64, .i32⟩
  | .hbm, ⟨19, _⟩ => ⟨S8x1x1024x1, .i32⟩
  | .hbm, ⟨20, _⟩ => ⟨S8x1024x1, .i32⟩
  | .hbm, ⟨21, _⟩ => ⟨S8x1024x64, .i32⟩
  | .hbm, ⟨22, _⟩ => ⟨S8x1024x128, .i32⟩
  | .hbm, ⟨23, _⟩ => ⟨S8192x128, .i32⟩
  | .hbm, ⟨24, _⟩ => ⟨S16384x2048, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1024x128, .i32⟩
  | .local _ .vmem, ⟨5, _⟩ => ⟨S1024x128, .i32⟩
  | .local _ .vmem, ⟨6, _⟩ => ⟨S1x128, .f32⟩
  | .local _ .vmem, ⟨7, _⟩ => ⟨S2048x512, .bf16⟩
  | .local _ .vmem, ⟨8, _⟩ => ⟨S2048x512, .bf16⟩
  | .local _ .vmem, ⟨9, _⟩ => ⟨S2048x128, .f32⟩
  | .local _ .vmem, ⟨10, _⟩ => ⟨S2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c5200_i32 : BitVec 32 := 5200#32
  let arg1 : BitVec 32 := BitVec.ofNat 32 (i 1).val
  let c512_i32 : BitVec 32 := 512#32
  let v0 : BitVec 32 := Scalar.muli arg1 c512_i32
  let v1 : BitVec 32 := Scalar.addi c5200_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c5200_i32 : BitVec 32 := 5200#32
  let v1 : BitVec 32 := Scalar.addi c5200_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x2048 : Shape := ⟨2, ![16384, 2048]⟩
abbrev S4x4096 : Shape := ⟨2, ![4, 4096]⟩
abbrev S1x2048x13392 : Shape := ⟨3, ![1, 2048, 13392]⟩
abbrev S2048x13392 : Shape := ⟨2, ![2048, 13392]⟩
abbrev S16384x13392 : Shape := ⟨2, ![16384, 13392]⟩
abbrev S4x4096x13392 : Shape := ⟨3, ![4, 4096, 13392]⟩
abbrev S4x4096x1024 : Shape := ⟨3, ![4, 4096, 1024]⟩
abbrev S4x4096x8x128 : Shape := ⟨4, ![4, 4096, 8, 128]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x8x64 : Shape := ⟨4, ![4, 4096, 8, 64]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x4096, .i32⟩
  | .hbm, ⟨2, _⟩ => ⟨S1x2048x13392, .f32⟩
  | .hbm, ⟨3, _⟩ => ⟨S16384x2048, .f32⟩
  | .hbm, ⟨4, _⟩ => ⟨S2048x13392, .f32⟩
  | .hbm, ⟨5, _⟩ => ⟨S16384x13392, .f32⟩
  | .hbm, ⟨6, _⟩ => ⟨S4x4096x13392, .f32⟩
  | .hbm, ⟨7, _⟩ => ⟨S4x4096x1024, .f32⟩
  | .hbm, ⟨8, _⟩ => ⟨S4x4096x8x128, .f32⟩
  | .hbm, ⟨9, _⟩ => ⟨S4x4096x1024, .f32⟩
  | .hbm, ⟨10, _⟩ => ⟨S4x4096x8x128, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S4x4096x1, .i32⟩
  | .hbm, ⟨20, _⟩ => ⟨S4x4096x1, .f32⟩
  | .hbm, ⟨21, _⟩ => ⟨S1x1x64, .f32⟩
  | .hbm, ⟨22, _⟩ => ⟨S4x4096x64, .f32⟩
  | .hbm, ⟨23, _⟩ => ⟨S4x4096x64, .f32⟩
  | .hbm, ⟨24, _⟩ => ⟨S4x4096x64, .f32⟩
  | .hbm, ⟨25, _⟩ => ⟨S4x4096x64, .f32⟩
  | .hbm, ⟨26, _⟩ => ⟨S4x4096x1x64, .f32⟩
  | .hbm, ⟨27, _⟩ => ⟨S4x4096x64, .f32⟩
  | .hbm, ⟨28, _⟩ => ⟨S4x4096x1x64, .f32⟩
  | .hbm, ⟨29, _⟩ => ⟨S4x4096x8x64, .f32⟩
  | .hbm, ⟨30, _⟩ => ⟨S4x4096x8x64, .f32⟩
  | .hbm, ⟨31, _⟩ => ⟨S4x4096x8x64, .f32⟩
  | .hbm, ⟨32, _⟩ => ⟨S4x4096x8x64, .f32⟩
  | .hbm, ⟨33, _⟩ => ⟨S4x4096x8x64, .f32⟩
  | .hbm, ⟨34, _⟩ => ⟨S4x4096x8x64, .f32⟩
  | .hbm, ⟨35, _⟩ => ⟨S4x4096x8x64, .f32⟩
  | .hbm, ⟨36, _⟩ => ⟨S4x4096x8x64, .f32⟩
  | .hbm, ⟨37, _⟩ => ⟨S4x4096x8x64, .f32⟩
  | .hbm, ⟨38, _⟩ => ⟨S4x4096x8x64, .f32⟩
  | .hbm, ⟨39, _⟩ => ⟨S4x4096x8x64, .f32⟩
  | .hbm, ⟨40, _⟩ => ⟨S4x4096x8x64, .f32⟩
  | .hbm, ⟨41, _⟩ => ⟨S4x4096x8x128, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S4x4096x1, .i32⟩
  | .hbm, ⟨51, _⟩ => ⟨S4x4096x1, .f32⟩
  | .hbm, ⟨52, _⟩ => ⟨S1x1x64, .f32⟩
  | .hbm, ⟨53, _⟩ => ⟨S4x4096x64, .f32⟩
  | .hbm, ⟨54, _⟩ => ⟨S4x4096x64, .f32⟩
  | .hbm, ⟨55, _⟩ => ⟨S4x4096x64, .f32⟩
  | .hbm, ⟨56, _⟩ => ⟨S4x4096x64, .f32⟩
  | .hbm, ⟨57, _⟩ => ⟨S4x4096x1x64, .f32⟩
  | .hbm, ⟨58, _⟩ => ⟨S4x4096x64, .f32⟩
  | .hbm, ⟨59, _⟩ => ⟨S4x4096x1x64, .f32⟩
  | .hbm, ⟨60, _⟩ => ⟨S4x4096x8x64, .f32⟩
  | .hbm, ⟨61, _⟩ => ⟨S4x4096x8x64, .f32⟩
  | .hbm, ⟨62, _⟩ => ⟨S4x4096x8x64, .f32⟩
  | .hbm, ⟨63, _⟩ => ⟨S4x4096x8x64, .f32⟩
  | .hbm, ⟨64, _⟩ => ⟨S4x4096x8x64, .f32⟩
  | .hbm, ⟨65, _⟩ => ⟨S4x4096x8x64, .f32⟩
  | .hbm, ⟨66, _⟩ => ⟨S4x4096x8x64, .f32⟩
  | .hbm, ⟨67, _⟩ => ⟨S4x4096x8x64, .f32⟩
  | .hbm, ⟨68, _⟩ => ⟨S4x4096x8x64, .f32⟩
  | .hbm, ⟨69, _⟩ => ⟨S4x4096x8x64, .f32⟩
  | .hbm, ⟨70, _⟩ => ⟨S4x4096x8x64, .f32⟩
  | .hbm, ⟨71, _⟩ => ⟨S4x4096x8x64, .f32⟩
  | .hbm, ⟨72, _⟩ => ⟨S4x4096x8x128, .f32⟩
  | .hbm, ⟨73, _⟩ => ⟨S_, .f32⟩
  | .hbm, ⟨74, _⟩ => ⟨S4x4096x8x128, .f32⟩
  | .hbm, ⟨75, _⟩ => ⟨S4x4096x8x128, .f32⟩
  | .hbm, ⟨76, _⟩ => ⟨S16384x1024, .f32⟩
  | .hbm, ⟨77, _⟩ => ⟨S16384x1024, .f32⟩
  | .hbm, ⟨78, _⟩ => ⟨S16384x2048, .f32⟩
  | .hbm, ⟨79, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_3 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== Kernel2.lean ====
abbrev S16384x2048 : Shape := ⟨2, ![16384, 2048]⟩
abbrev S1x2048x13392 : Shape := ⟨3, ![1, 2048, 13392]⟩
abbrev S2048x13392 : Shape := ⟨2, ![2048, 13392]⟩
abbrev S13392x2048 : Shape := ⟨2, ![13392, 2048]⟩
abbrev S4096 : Shape := ⟨1, ![4096]⟩
abbrev S_ : Shape := ⟨0, ![]⟩
abbrev S1x4096 : Shape := ⟨2, ![1, 4096]⟩
abbrev S16384x4096 : Shape := ⟨2, ![16384, 4096]⟩
abbrev S2048x2048 : Shape := ⟨2, ![2048, 2048]⟩
abbrev S512x2048 : Shape := ⟨2, ![512, 2048]⟩
abbrev S1x512 : Shape := ⟨2, ![1, 512]⟩
abbrev S2048x512 : Shape := ⟨2, ![2048, 512]⟩

abbrev nBuf : Space → Nat
  | .hbm => 22
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S2048x13392, .f32⟩
  | .hbm, ⟨3, _⟩ => ⟨S13392x2048, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst_2 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg1 : BitVec 32 := BitVec.ofNat 32 (i 1).val
  let c4_i32 : BitVec 32 := 4#32
  let v0 : BitVec 1 := Scalar.cmpi .slt arg1 c4_i32
  let c2_i32 : BitVec 32 := 2#32
  let v1 : BitVec 32 := Scalar.addi arg1 c2_i32
  let v2 : BitVec 32 := Scalar.select v0 arg1 v1
  let c512_i32 : BitVec 32 := 512#32
  let v3 : BitVec 32 := Scalar.muli v2 c512_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c2_i32 : BitVec 32 := 2#32
  let v1 : BitVec 32 := Scalar.addi arg1 c2_i32
  let v2 : BitVec 32 := Scalar.select v0 arg1 v1
  let c512_i32 : BitVec 32 := 512#32
  let v3 : BitVec 32 := Scalar.muli v2 c512_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048x13392 : Shape := ⟨3, ![1, 2048, 13392]⟩
abbrev S2048x13392 : Shape := ⟨2, ![2048, 13392]⟩
abbrev S16384x13392 : Shape := ⟨2, ![16384, 13392]⟩
abbrev S16384x1024 : Shape := ⟨2, ![16384, 1024]⟩
abbrev S_ : Shape := ⟨0, ![]⟩
abbrev S16384x4096 : Shape := ⟨2, ![16384, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S16384x2048, .f32⟩
  | .hbm, ⟨3, _⟩ => ⟨S2048x13392, .f32⟩
  | .hbm, ⟨4, _⟩ => ⟨S16384x13392, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x4096, .f32⟩
  | .hbm, ⟨16, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel3.lean ====
abbrev S16384x2048 : Shape := ⟨2, ![16384, 2048]⟩
abbrev S1x2048x13392 : Shape := ⟨3, ![1, 2048, 13392]⟩
abbrev S2048x13392 : Shape := ⟨2, ![2048, 13392]⟩
abbrev S13392x2048 : Shape := ⟨2, ![13392, 2048]⟩
abbrev S4x16x1152x256 : Shape := ⟨4, ![4, 16, 1152, 256]⟩
abbrev S2048x2048 : Shape := ⟨2, ![2048, 2048]⟩
abbrev S512x2048 : Shape := ⟨2, ![512, 2048]⟩
abbrev S1x8x576x256 : Shape := ⟨4, ![1, 8, 576, 256]⟩
abbrev S16x256 : Shape := ⟨2, ![16, 256]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S2048x13392, .f32⟩
  | .hbm, ⟨3, _⟩ => ⟨S13392x2048, .f32⟩
  | .hbm, ⟨4, _⟩ => ⟨S4x16x1152x256, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x8x576x256, .bf16⟩
  | .local _ .vmem, ⟨5, _⟩ => ⟨S1x8x576x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c2048_i32 : BitVec 32 := 2048#32
  let arg1 : BitVec 32 := BitVec.ofNat 32 (i 1).val
  let c512_i32 : BitVec 32 := 512#32
  let v0 : BitVec 32 := Scalar.muli arg1 c512_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x576x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S1x2048x13392 : Shape := ⟨3, ![1, 2048, 13392]⟩
abbrev S2048x13392 : Shape := ⟨2, ![2048, 13392]⟩
abbrev S16384x13392 : Shape := ⟨2, ![16384, 13392]⟩
abbrev S16384x1024 : Shape := ⟨2, ![16384, 1024]⟩
abbrev S4x16x256x8x128 : Shape := ⟨5, ![4, 16, 256, 8, 128]⟩
abbrev S4x16x8x128x256 : Shape := ⟨5, ![4, 16, 8, 128, 256]⟩
abbrev S_ : Shape := ⟨0, ![]⟩
abbrev S4x16x8x16x256 : Shape := ⟨5, ![4, 16, 8, 16, 256]⟩
abbrev S4x16x8x144x256 : Shape := ⟨5, ![4, 16, 8, 144, 256]⟩
abbrev S4x16x1152x256 : Shape := ⟨4, ![4, 16, 1152, 256]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S16384x2048, .f32⟩
  | .hbm, ⟨3, _⟩ => ⟨S2048x13392, .f32⟩
  | .hbm, ⟨4, _⟩ => ⟨S16384x13392, .f32⟩
  | .hbm, ⟨5, _⟩ => ⟨S16384x1024, .f32⟩
  | .hbm, ⟨6, _⟩ => ⟨S4x16x256x8x128, .f32⟩
  | .hbm, ⟨7, _⟩ => ⟨S4x16x8x128x256, .f32⟩
  | .hbm, ⟨8, _⟩ => ⟨S_, .f32⟩
  | .hbm, ⟨9, _⟩ => ⟨S4x16x8x16x256, .f32⟩
  | .hbm, ⟨10, _⟩ => ⟨S4x16x8x144x256, .f32⟩
  | .hbm, ⟨11, _⟩ => ⟨S4x16x1152x256, .f32⟩
  | .hbm, ⟨12, _⟩ => ⟨S4x16x1152x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S16384x2048 : Shape := ⟨2, ![16384, 2048]⟩
abbrev S1x2048x13392 : Shape := ⟨3, ![1, 2048, 13392]⟩
abbrev S2048x13392 : Shape := ⟨2, ![2048, 13392]⟩
abbrev S13392x2048 : Shape := ⟨2, ![13392, 2048]⟩
abbrev S16384x6144 : Shape := ⟨2, ![16384, 6144]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S2048x13392, .f32⟩
  | .hbm, ⟨3, _⟩ => ⟨S13392x2048, .f32⟩
  | .hbm, ⟨4, _⟩ => ⟨S16384x6144, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c7248_i32 : BitVec 32 := 7248#32
  let arg1 : BitVec 32 := BitVec.ofNat 32 (i 1).val
  let c512_i32 : BitVec 32 := 512#32
  let v0 : BitVec 32 := Scalar.muli arg1 c512_i32
  let v1 : BitVec 32 := Scalar.addi c7248_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c7248_i32 : BitVec 32 := 7248#32
  let v1 : BitVec 32 := Scalar.addi c7248_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S1x2048x13392 : Shape := ⟨3, ![1, 2048, 13392]⟩
abbrev S2048x13392 : Shape := ⟨2, ![2048, 13392]⟩
abbrev S16384x13392 : Shape := ⟨2, ![16384, 13392]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S16384x2048, .f32⟩
  | .hbm, ⟨3, _⟩ => ⟨S2048x13392, .f32⟩
  | .hbm, ⟨4, _⟩ => ⟨S16384x13392, .f32⟩
  | .hbm, ⟨5, _⟩ => ⟨S16384x6144, .f32⟩
  | .hbm, ⟨6, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16384x2048 : Shape := ⟨2, ![16384, 2048]⟩
abbrev S1x2048x13392 : Shape := ⟨3, ![1, 2048, 13392]⟩
abbrev S2048x13392 : Shape := ⟨2, ![2048, 13392]⟩
abbrev S13392x2048 : Shape := ⟨2, ![13392, 2048]⟩
abbrev S16384x128 : Shape := ⟨2, ![16384, 128]⟩
abbrev S16x16384 : Shape := ⟨2, ![16, 16384]⟩
abbrev S2048x2048 : Shape := ⟨2, ![2048, 2048]⟩
abbrev S64x2048 : Shape := ⟨2, ![64, 2048]⟩
abbrev S16x2048 : Shape := ⟨2, ![16, 2048]⟩
abbrev S2048x128 : Shape := ⟨2, ![2048, 128]⟩
abbrev S128x2048 : Shape := ⟨2, ![128, 2048]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S2048x13392, .f32⟩
  | .hbm, ⟨3, _⟩ => ⟨S13392x2048, .f32⟩
  | .hbm, ⟨4, _⟩ => ⟨S16384x128, .bf16⟩
  | .hbm, ⟨5, _⟩ => ⟨S16x16384, .f32⟩
  | .local _ .vmem, ⟨0, _⟩ => ⟨S2048x2048, .bf16⟩
  | .local _ .vmem, ⟨1, _⟩ => ⟨S2048x2048, .bf16⟩
  | .local _ .vmem, ⟨2, _⟩ => ⟨S64x2048, .f32⟩
  | .local _ .vmem, ⟨3, _⟩ => ⟨S16x2048, .f32⟩
  | .local _ .vmem, ⟨4, _⟩ => ⟨S2048x128, .bf16⟩
  | .local _ .vmem, ⟨5, _⟩ => ⟨S2048x128, .bf16⟩
  | .local _ .vmem, ⟨6, _⟩ => ⟨S16x2048, .f32⟩
  | .local _ .vmem, ⟨7, _⟩ => ⟨S16x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c5120_i32 : BitVec 32 := 5120#32
  c5120_i32
def k0_mult2 : BitVec 32 :=
  let c5184_i32 : BitVec 32 := 5184#32
  c5184_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5120_i32 : BitVec 32 := 5120#32
  let v0 : BitVec 32 := c5120_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c5184_i32 : BitVec 32 := 5184#32
  let v0 : BitVec 32 := c5184_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S1x2048x13392 : Shape := ⟨3, ![1, 2048, 13392]⟩
abbrev S2048x13392 : Shape := ⟨2, ![2048, 13392]⟩
abbrev S16384x13392 : Shape := ⟨2, ![16384, 13392]⟩
abbrev S16384x64 : Shape := ⟨2, ![16384, 64]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S16x16384 : Shape := ⟨2, ![16, 16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x13392, .f32⟩
  | .hbm, ⟨2, _⟩ => ⟨S16384x2048, .f32⟩
  | .hbm, ⟨3, _⟩ => ⟨S2048x13392, .f32⟩
  | .hbm, ⟨4, _⟩ => ⟨S16384x13392, .f32⟩
  | .hbm, ⟨5, _⟩ => ⟨S16384x64, .f32⟩
  | .hbm, ⟨6, _⟩ => ⟨S16384x16, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S16384x128, .f32⟩
  | .hbm, ⟨34, _⟩ => ⟨S16384x128, .bf16⟩
  | .hbm, ⟨35, _⟩ => ⟨S16x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel6.lean ====
abbrev S16384x1024 : Shape := ⟨2, ![16384, 1024]⟩
abbrev S16384x6144 : Shape := ⟨2, ![16384, 6144]⟩
abbrev S4x4096x2048 : Shape := ⟨3, ![4, 4096, 2048]⟩
abbrev S1x4x4096x256 : Shape := ⟨4, ![1, 4, 4096, 256]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S2048 : Shape := ⟨1, ![2048]⟩
abbrev S16384x2048 : Shape := ⟨2, ![16384, 2048]⟩
abbrev S4x4096x256 : Shape := ⟨3, ![4, 4096, 256]⟩
abbrev S16384x256 : Shape := ⟨2, ![16384, 256]⟩
abbrev S1024x2048 : Shape := ⟨2, ![1024, 2048]⟩
abbrev S2048x2048 : Shape := ⟨2, ![2048, 2048]⟩
abbrev S256x2048 : Shape := ⟨2, ![256, 2048]⟩
abbrev S1x2048 : Shape := ⟨2, ![1, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 26
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .bf16⟩
  | .hbm, ⟨3, _⟩ => ⟨S4x4096x2048, .f32⟩
  | .hbm, ⟨4, _⟩ => ⟨S1x4x4096x256, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x256x2048, .f32⟩
  | .hbm, ⟨9, _⟩ => ⟨S1x2048x2048, .f32⟩
  | .hbm, ⟨10, _⟩ => ⟨S2048, .f32⟩
  | .hbm, ⟨11, _⟩ => ⟨S16384x2048, .f32⟩
  | .hbm, ⟨12, _⟩ => ⟨S4x4096x256, .f32⟩
  | .hbm, ⟨13, _⟩ => ⟨S16384x256, .f32⟩
  | .hbm, ⟨14, _⟩ => ⟨S1024x2048, .f32⟩
  | .hbm, ⟨15, _⟩ => ⟨S1024x2048, .bf16⟩
  | .hbm, ⟨16, _⟩ => ⟨S1024x2048, .f32⟩
  | .hbm, ⟨17, _⟩ => ⟨S1024x2048, .bf16⟩
  | .hbm, ⟨18, _⟩ => ⟨S2048x2048, .f32⟩
  | .hbm, ⟨19, _⟩ => ⟨S2048x2048, .bf16⟩
  | .hbm, ⟨20, _⟩ => ⟨S256x2048, .f32⟩
  | .hbm, ⟨21, _⟩ => ⟨S256x2048, .bf16⟩
  | .hbm, ⟨22, _⟩ => ⟨S2048x2048, .f32⟩
  | .hbm, ⟨23, _⟩ => ⟨S2048x2048, .bf16⟩
  | .hbm, ⟨24, _⟩ => ⟨S1x2048, .f32⟩
  | .hbm, ⟨25, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S256x2048, .bf16⟩
  | .local _ .vmem, ⟨16, _⟩ => ⟨S2048x2048, .bf16⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16384x1024 : Shape := ⟨2, ![16384, 1024]⟩
abbrev S16384x6144 : Shape := ⟨2, ![16384, 6144]⟩
abbrev S4x4096x2048 : Shape := ⟨3, ![4, 4096, 2048]⟩
abbrev S1x4x4096x256 : Shape := ⟨4, ![1, 4, 4096, 256]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S2048 : Shape := ⟨1, ![2048]⟩
abbrev S16384x2048 : Shape := ⟨2, ![16384, 2048]⟩
abbrev S4x4096x256 : Shape := ⟨3, ![4, 4096, 256]⟩
abbrev S16384x256 : Shape := ⟨2, ![16384, 256]⟩
abbrev S_ : Shape := ⟨0, ![]⟩
abbrev S1024x2048 : Shape := ⟨2, ![1024, 2048]⟩
abbrev S2048x2048 : Shape := ⟨2, ![2048, 2048]⟩
abbrev S256x2048 : Shape := ⟨2, ![256, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .bf16⟩
  | .hbm, ⟨3, _⟩ => ⟨S4x4096x2048, .f32⟩
  | .hbm, ⟨4, _⟩ => ⟨S1x4x4096x256, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x256x2048, .f32⟩
  | .hbm, ⟨9, _⟩ => ⟨S1x2048x2048, .f32⟩
  | .hbm, ⟨10, _⟩ => ⟨S2048, .f32⟩
  | .hbm, ⟨11, _⟩ => ⟨S16384x2048, .bf16⟩
  | .hbm, ⟨12, _⟩ => ⟨S16384x2048, .f32⟩
  | .hbm, ⟨13, _⟩ => ⟨S16384x2048, .bf16⟩
  | .hbm, ⟨14, _⟩ => ⟨S16384x2048, .f32⟩
  | .hbm, ⟨15, _⟩ => ⟨S16384x2048, .f32⟩
  | .hbm, ⟨16, _⟩ => ⟨S4x4096x256, .f32⟩
  | .hbm, ⟨17, _⟩ => ⟨S16384x256, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x1024, .f32⟩
  | .hbm, ⟨27, _⟩ => ⟨S1024x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x1024, .f32⟩
  | .hbm, ⟨39, _⟩ => ⟨S1024x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048x2048, .f32⟩
  | .hbm, ⟨44, _⟩ => ⟨S16384x2048, .f32⟩
  | .hbm, ⟨45, _⟩ => ⟨S16384x2048, .f32⟩
  | .hbm, ⟨46, _⟩ => ⟨S256x2048, .f32⟩
  | .hbm, ⟨47, _⟩ => ⟨S16384x2048, .f32⟩
  | .hbm, ⟨48, _⟩ => ⟨S2048x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S1x2048, .f32⟩
  | .hbm, ⟨74, _⟩ => ⟨S16384x2048, .f32⟩
  | .hbm, ⟨75, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel7.lean ====
abbrev S4x4096x2048 : Shape := ⟨3, ![4, 4096, 2048]⟩
abbrev S1x2048 : Shape := ⟨2, ![1, 2048]⟩
abbrev S16384x2048 : Shape := ⟨2, ![16384, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x4096x2048 : Shape := ⟨3, ![4, 4096, 2048]⟩
abbrev S1x2048 : Shape := ⟨2, ![1, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S16384x2048 : Shape := ⟨2, ![16384, 2048]⟩
abbrev S16384x6144 : Shape := ⟨2, ![16384, 6144]⟩
abbrev S1x1024 : Shape := ⟨2, ![1, 1024]⟩
abbrev S1024 : Shape := ⟨1, ![1024]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S4x4096x2048 : Shape := ⟨3, ![4, 4096, 2048]⟩
abbrev S4x4096x6144 : Shape := ⟨3, ![4, 4096, 6144]⟩
abbrev S4x4096x1024 : Shape := ⟨3, ![4, 4096, 1024]⟩
abbrev S1x512x1024 : Shape := ⟨3, ![1, 512, 1024]⟩
abbrev S8x128x128 : Shape := ⟨3, ![8, 128, 128]⟩
abbrev S1x64x128 : Shape := ⟨3, ![1, 64, 128]⟩
abbrev S64x128 : Shape := ⟨2, ![64, 128]⟩
abbrev S128x64 : Shape := ⟨2, ![128, 64]⟩
abbrev S128x128 : Shape := ⟨2, ![128, 128]⟩
abbrev S1x128x128 : Shape := ⟨3, ![1, 128, 128]⟩
abbrev S1 : Shape := ⟨1, ![1]⟩
abbrev S1x128 : Shape := ⟨2, ![1, 128]⟩

abbrev nBuf : Space → Nat
  | .hbm => 58
  | .vmem => 15
  | .smem => 1
  | _ => 0

abbrev bufTy : (tb : Table) → Fin (tcTables nBuf tb) → BufTy
  | .hbm, ⟨0, _⟩ => ⟨S16384x2048, .bf16⟩
  | .hbm, ⟨1, _⟩ => ⟨S16384x6144, .bf16⟩
  | .hbm, ⟨2, _⟩ => ⟨S1x1024, .f32⟩
  | .hbm, ⟨3, _⟩ => ⟨S1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S64, .f32⟩
  | .hbm, ⟨16, _⟩ => ⟨S64x1, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S8x1x1, .f32⟩
  | .hbm, ⟨23, _⟩ => ⟨S1x64x64, .f32⟩
  | .hbm, ⟨24, _⟩ => ⟨S8x64x64, .f32⟩
  | .hbm, ⟨25, _⟩ => ⟨S8x64x64, .f32⟩
  | .hbm, ⟨26, _⟩ => ⟨S8x64x64, .f32⟩
  | .hbm, ⟨27, _⟩ => ⟨S8x64x64, .f32⟩
  | .hbm, ⟨28, _⟩ => ⟨S8x1, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S8x64, .f32⟩
  | .hbm, ⟨34, _⟩ => ⟨S8x64, .f32⟩
  | .hbm, ⟨35, _⟩ => ⟨S8x64, .f32⟩
  | .hbm, ⟨36, _⟩ => ⟨S8x64, .f32⟩
  | .hbm, ⟨37, _⟩ => ⟨S8x1, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8x64x1, .f32⟩
  | .hbm, ⟨51, _⟩ => ⟨S8x64x128, .f32⟩
  | .hbm, ⟨52, _⟩ => ⟨S8x64x1, .f32⟩
  | .hbm, ⟨53, _⟩ => ⟨S8x64x128, .f32⟩
  | .hbm, ⟨54, _⟩ => ⟨S4x4096x2048, .bf16⟩
  | .hbm, ⟨55, _⟩ => ⟨S4x4096x6144, .bf16⟩
  | .hbm, ⟨56, _⟩ => ⟨S1x1024, .f32⟩
  | .hbm, ⟨57, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S8x64x64, .f32⟩
  | .local _ .vmem, ⟨10, _⟩ => ⟨S8x64x128, .f32⟩
  | .local _ .vmem, ⟨11, _⟩ => ⟨S8x64x128, .f32⟩
  | .local _ .vmem, ⟨12, _⟩ => ⟨S1x512x1024, .bf16⟩
  | .local _ .vmem, ⟨13, _⟩ => ⟨S1x512x1024, .bf16⟩
  | .local _ .vmem, ⟨14, _⟩ => ⟨S8x128x128, .f32⟩
  | .local _ .smem, ⟨0, _⟩ => ⟨S8, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let c0_i32_3 : BitVec 32 := 0#32
  let v5 : BitVec 32 := Scalar.addi v4 c0_i32_3
  let c64_i32 : BitVec 32 := 64#32
  let v6 : BitVec 32 := Scalar.muli v5 c64_i32
  v6
def k0_mult2 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c4_i32_4 : BitVec 32 := 4#32
  let v8 : BitVec 32 := Scalar.muli arg13 c4_i32_4
  let c1_i32_5 : BitVec 32 := 1#32
  let v9 : BitVec 32 := Scalar.addi v8 c1_i32_5
  let c64_i32_6 : BitVec 32 := 64#32
  let v10 : BitVec 32 := Scalar.muli v9 c64_i32_6
  v10
def k0_mult3 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c4_i32_7 : BitVec 32 := 4#32
  let v12 : BitVec 32 := Scalar.muli arg13 c4_i32_7
  let c2_i32_8 : BitVec 32 := 2#32
  let v13 : BitVec 32 := Scalar.addi v12 c2_i32_8
  let c64_i32_9 : BitVec 32 := 64#32
  let v14 : BitVec 32 := Scalar.muli v13 c64_i32_9
  v14
def k0_mult4 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c4_i32_10 : BitVec 32 := 4#32
  let v16 : BitVec 32 := Scalar.muli arg13 c4_i32_10
  let c3_i32 : BitVec 32 := 3#32
  let v17 : BitVec 32 := Scalar.addi v16 c3_i32
  let c64_i32_11 : BitVec 32 := 64#32
  let v18 : BitVec 32 := Scalar.muli v17 c64_i32_11
  v18
def k0_off1 (k0_t1 : Fin k0_t1_loop.trips) (c0_i32_3 : BitVec 32) : Fin 3 → Nat :=
  let c0 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v20 : Index := Scalar.indexCast v7
  let c0_12 : Index := 0#32
  ![0, v20.toNat, 0]
def k0_off2 (k0_t1 : Fin k0_t1_loop.trips) (c0_i32_3 : BitVec 32) : Fin 3 → Nat :=
  let c0_21 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v37 : Index := Scalar.indexCast v7
  let c128 : Index := 128#32
  ![0, v37.toNat, 128]
def k0_off3 (k0_t1 : Fin k0_t1_loop.trips) (c0_i32_3 : BitVec 32) : Fin 3 → Nat :=
  let c0_30 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v54 : Index := Scalar.indexCast v7
  let c256 : Index := 256#32
  ![0, v54.toNat, 256]
def k0_off4 (k0_t1 : Fin k0_t1_loop.trips) (c0_i32_3 : BitVec 32) : Fin 3 → Nat :=
  let c0_39 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v71 : Index := Scalar.indexCast v7
  let c384 : Index := 384#32
  ![0, v71.toNat, 384]
def k0_off5 (k0_t1 : Fin k0_t1_loop.trips) (c0_i32_3 : BitVec 32) : Fin 3 → Nat :=
  let c0_48 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v88 : Index := Scalar.indexCast v7
  let c512 : Index := 512#32
  ![0, v88.toNat, 512]
def k0_off6 (k0_t1 : Fin k0_t1_loop.trips) (c0_i32_3 : BitVec 32) : Fin 3 → Nat :=
  let c0_57 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v105 : Index := Scalar.indexCast v7
  let c640 : Index := 640#32
  ![0, v105.toNat, 640]
def k0_off7 (k0_t1 : Fin k0_t1_loop.trips) (c0_i32_3 : BitVec 32) : Fin 3 → Nat :=
  let c0_66 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v122 : Index := Scalar.indexCast v7
  let c768 : Index := 768#32
  ![0, v122.toNat, 768]
def k0_off8 (k0_t1 : Fin k0_t1_loop.trips) (c0_i32_3 : BitVec 32) : Fin 3 → Nat :=
  let c0_75 : Index := 0#32
  let c0_i32_1 : BitVec 32 := 0#32
  let c1_i32 : BitVec 32 := 1#32
  let arg13 : BitVec 32 := Scf.iv c0_i32_1 c1_i32 k0_t1
  let c4_i32 : BitVec 32 := 4#32
  let v4 : BitVec 32 := Scalar.muli arg13 c4_i32
  let v5 : BitVec 32 := Scalar.addi v4 c0_i32_3
  let c64_i32 : BitVec 32 := 64#32
  let v6 : BitVec 32 := Scalar.muli v5 c64_i32
  let v7 : BitVec 32 := v6
  let v139 : Index := Scalar.indexCast v7
  let c896 : Index := 896#32
  ![0, v139.toNat, 896]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S16384x2048 : Shape := ⟨2, ![16384, 2048]⟩
abbrev S16384x6144 : Shape := ⟨2, ![16384, 6144]⟩
abbrev S1x1024 : Shape := ⟨2, ![1, 1024]⟩
abbrev S16384x1024 : Shape := ⟨2, ![16384, 1024]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S4x64x64x8x128 : Shape := ⟨5, ![4, 64, 64, 8, 128]⟩
abbrev S4x64x8x64x64 : Shape := ⟨5, ![4, 64, 8, 64, 64]⟩
abbrev S1x1x8x64x64 : Shape := ⟨5, ![1, 1, 8, 64, 64]⟩
abbrev S4x64x8x128x64 : Shape := ⟨5, ![4, 64, 8, 128, 64]⟩
abbrev S64x8x1 : Shape := ⟨3, ![64, 8, 1]⟩
abbrev S1x1x64x8x1 : Shape := ⟨5, ![1, 1, 64, 8, 1]⟩
abbrev S64x4x8x128x128 : Shape := ⟨5, ![64, 4, 8, 128, 128]⟩
abbrev S4x8x128x128 : Shape := ⟨4, ![4, 8, 128, 128]⟩
abbrev S1x4x8x128x128 : Shape := ⟨5, ![1, 4, 8, 128, 128]⟩
abbrev S1x8x1x1 : Shape := ⟨4, ![1, 8, 1, 1]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S4x4096x1024 : Shape := ⟨3, ![4, 4096, 1024]⟩
abbrev S1024 : Shape := ⟨1, ![1024]⟩
abbrev S1x1x1024 : Shape := ⟨3, ![1, 1, 1024]⟩

abbrev nBuf : Space → Nat
  | .hbm => 147
  | .vmem => 0
  | .smem => 0
  | _ => 0

abbrev hbmTy0_0 (i : Nat) : BufTy := match i % 128 with
  | 0 => ⟨S16384x2048, .bf16⟩
  | 1 => ⟨S16384x6144, .bf16⟩
  | 2 => ⟨S1x1024, .f32⟩
  | 3 => ⟨S16384x2048, .f32⟩
  | 4 => ⟨S16384x6144, .f32⟩
  | 5 => ⟨S16384x1024, .f32⟩
  | 6 => ⟨S16384x1024, .f32⟩
  | 7 => ⟨S16384x1024, .f32⟩
  | 8 => ⟨S16384x1024, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S64, .f32⟩
  | 21 => ⟨S64x1, .f32⟩
  | 22 => ⟨S1x64, .f32⟩
  | 23 => ⟨S64x64, .f32⟩
  | 24 => ⟨S64x64, .f32⟩
  | 25 => ⟨S64x64, .f32⟩
  | 26 => ⟨S64x64, .f32⟩
  | 27 => ⟨S8x1x1, .f32⟩
  | 28 => ⟨S1x64x64, .f32⟩
  | 29 => ⟨S8x64x64, .f32⟩
  | 30 => ⟨S8x64x64, .f32⟩
  | 31 => ⟨S8x64x64, .f32⟩
  | 32 => ⟨S8x64x64, .f32⟩
  | 33 => ⟨S1x8, .f32⟩
  | 34 => ⟨S_, .f32⟩
  | 35 => ⟨S64, .f32⟩
  | 36 => ⟨S64, .f32⟩
  | 37 => ⟨S64x1, .f32⟩
  | 38 => ⟨S64x8, .f32⟩
  | 39 => ⟨S64x8, .f32⟩
  | 40 => ⟨S64x8, .f32⟩
  | 41 => ⟨S64x8, .f32⟩
  | 42 => ⟨S1x8, .f32⟩
  | 43 => ⟨S_, .f32⟩
  | 44 => ⟨S64, .f32⟩
  | 45 => ⟨S64, .f32⟩
  | 46 => ⟨S64x1, .f32⟩
  | 47 => ⟨S64x8, .f32⟩
  | 48 => ⟨S64x8, .f32⟩
  | 49 => ⟨S64x8, .f32⟩
  | 50 => ⟨S64x8, .f32⟩
  | 51 => ⟨S_, .f32⟩
  | 52 => ⟨S8, .f32⟩
  | 53 => ⟨S8, .f32⟩
  | 54 => ⟨S8, .f32⟩
  | 55 => ⟨S4x64x64x8x128, .f32⟩
  | 56 => ⟨S4x64x64x8x128, .f32⟩
  | 57 => ⟨S4x64x64x8x128, .f32⟩
  | 58 => ⟨S4x64x8x64x64, .f32⟩
  | 59 => ⟨S1x1x8x64x64, .f32⟩
  | 60 => ⟨S4x64x8x64x64, .f32⟩
  | 61 => ⟨S4x64x8x64x64, .f32⟩
  | 62 => ⟨S4x64x8x128x64, .f32⟩
  | 63 => ⟨S4x64x64x8x128, .f32⟩
  | 64 => ⟨S64x8x1, .f32⟩
  | 65 => ⟨S1x1x64x8x1, .f32⟩
  | 66 => ⟨S4x64x64x8x128, .f32⟩
  | 67 => ⟨S4x64x64x8x128, .f32⟩
  | 68 => ⟨S64x4x8x128x128, .f32⟩
  | 69 => ⟨S_, .f32⟩
  | 70 => ⟨S4x8x128x128, .f32⟩
  | 71 => ⟨S_, .f32⟩
  | 72 => ⟨S64x4x8x128x128, .f32⟩
  | 73 => ⟨S_, .i32⟩
  | 74 => ⟨S64x4x8x128x128, .f32⟩
  | 75 => ⟨S8, .f32⟩
  | 76 => ⟨S_, .i32⟩
  | 77 => ⟨S4x8x128x128, .f32⟩
  | 78 => ⟨S64x4x8x128x128, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x4x8x128x128, .f32⟩
  | 86 => ⟨S4x8x128x128, .f32⟩
  | 87 => ⟨S1x8x1x1, .f32⟩
  | 88 => ⟨S4x8x128x128, .f32⟩
  | 89 => ⟨S4x8x128x128, .f32⟩
  | 90 => ⟨S4x8x128x128, .f32⟩
  | 91 => ⟨S1x4x8x128x128, .f32⟩
  | 92 => ⟨S_, .i32⟩
  | 93 => ⟨S_, .i32⟩
  | 94 => ⟨S_, .i32⟩
  | 95 => ⟨S_, .i32⟩
  | 96 => ⟨S64x4x8x128x128, .f32⟩
  | 97 => ⟨S_, .i32⟩
  | 98 => ⟨S_, .i32⟩
  | 99 => ⟨S64x8x1, .f32⟩
  | 100 => ⟨S1x1x64x8x1, .f32⟩
  | 101 => ⟨S4x64x64x8x128, .f32⟩
  | 102 => ⟨S4x64x64x8x128, .f32⟩
  | 103 => ⟨S4x64x8x128x64, .f32⟩
  | 104 => ⟨S4x64x64x8x128, .f32⟩
  | 105 => ⟨S4x64x64x8x128, .f32⟩
  | 106 => ⟨S4x4096x8x128, .f32⟩
  | 107 => ⟨S_, .f32⟩
  | 108 => ⟨S4x4096x8, .f32⟩
  | 109 => ⟨S4x4096x8x1, .f32⟩
  | 110 => ⟨S_, .f32⟩
  | 111 => ⟨S4x4096x8x1, .f32⟩
  | 112 => ⟨S4x4096x8x1, .f32⟩
  | 113 => ⟨S4x4096x8x128, .f32⟩
  | 114 => ⟨S4x4096x8x128, .f32⟩
  | 115 => ⟨S4x4096x8x128, .f32⟩
  | 116 => ⟨S_, .f32⟩
  | 117 => ⟨S4x4096x8, .f32⟩
  | 118 => ⟨S4x4096x8x1, .f32⟩
  | 119 => ⟨S_, .f32⟩
  | 120 => ⟨S4x4096x8x1, .f32⟩
  | 121 => ⟨S4x4096x8x1, .f32⟩
  | 122 => ⟨S4x4096x8x128, .f32⟩
  | 123 => ⟨S4x4096x8x128, .f32⟩
  | 124 => ⟨S_, .f32⟩
  | 125 => ⟨S4x4096x8x1, .f32⟩
  | 126 => ⟨S4x4096x8x1, .f32⟩
  | 127 => ⟨S4x4096x8x1, .f32⟩
  | _ => ⟨S16384x2048, .bf16⟩

abbrev hbmTy0_1 (i : Nat) : BufTy := match i % 128 with
  | 0 => ⟨S4x4096x8x128, .f32⟩
  | 1 => ⟨S4x4096x8x128, .f32⟩
  | 2 => ⟨S4x4096x1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S4x4096x1024, .f32⟩
  | 18 => ⟨S4x4096x1024, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_c : Ref sig .tc := ⟨.hbm, 73, rfl⟩
abbrev main_v62_0 : Ref sig .tc := ⟨.hbm, 74, rfl⟩
abbrev main_v62_1 : Ref sig .tc := ⟨.hbm, 75, rfl⟩
abbrev main_v62_2 : Ref sig .tc := ⟨.hbm, 76, rfl⟩
abbrev main_v62_3 : Ref sig .tc := ⟨.hbm, 77, rfl⟩
abbrev main_v62_4 : Ref sig .tc := ⟨.hbm, 78, rfl⟩
abbrev main_while0c_c_18 : Ref sig .tc := ⟨.hbm, 79, rfl⟩
abbrev main_while0c_v104 : Ref sig .tc := ⟨.hbm, 80, rfl⟩
abbrev main_while0b_call0_c : Ref sig .tc := ⟨.hbm, 81, rfl⟩
abbrev main_while0b_call0_c_0 : Ref sig .tc := ⟨.hbm, 82, rfl⟩
abbrev main_while0b_call0_c_1 : Ref sig .tc := ⟨.hbm, 83, rfl⟩
abbrev main_while0b_call0_c_2 : Ref sig .tc := ⟨.hbm, 84, rfl⟩
abbrev main_while0b_call0_v0 : Ref sig .tc := ⟨.hbm, 85, rfl⟩
abbrev main_while0b_v104 : Ref sig .tc := ⟨.hbm, 86, rfl⟩
abbrev main_while0b_v105 : Ref sig .tc := ⟨.hbm, 87, rfl⟩
abbrev main_while0b_v106 : Ref sig .tc := ⟨.hbm, 88, rfl⟩
abbrev main_while0b_v107 : Ref sig .tc := ⟨.hbm, 89, rfl⟩
abbrev main_while0b_v108 : Ref sig .tc := ⟨.hbm, 90, rfl⟩
abbrev main_while0b_call1_v0 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_v109 : Ref sig .tc := ⟨.hbm, 96, rfl⟩
abbrev main_while0b_c_18 : Ref sig .tc := ⟨.hbm, 97, rfl⟩
abbrev main_while0b_v110 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_7 : Ref sig .tc := ⟨.hbm, 107, rfl⟩
abbrev main_v71 : Ref sig .tc := ⟨.hbm, 108, rfl⟩
abbrev main_v72 : Ref sig .tc := ⟨.hbm, 109, rfl⟩
abbrev main_cst_8 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_9 : Ref sig .tc := ⟨.hbm, 116, rfl⟩
abbrev main_v78 : Ref sig .tc := ⟨.hbm, 117, rfl⟩
abbrev main_v79 : Ref sig .tc := ⟨.hbm, 118, rfl⟩
abbrev main_cst_10 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_12 : Ref sig .tc := ⟨.hbm, 138, rfl⟩
abbrev main_v97 : Ref sig .tc := ⟨.hbm, 139, rfl⟩
abbrev main_v98 : Ref sig .tc := ⟨.hbm, 140, rfl⟩
abbrev main_cst_13 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]

abbrev main_while0_count : Scf.Loop 32 := ⟨0#32, 64#32, 1#32⟩
-- ==== Proof.RopeRef.lean ====
module

public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.RopeRef

open Cert.ReferenceIdeal Cert.ReferenceIdeal.Read

variable (x0 : (⟨S16384x2048, .bf16⟩ : BufTy).Contents (Elt Ideal)) (x1 : (⟨S4x4096, .i32⟩ : BufTy).Contents (Elt Ideal))
  (x2 : (⟨S1x2048x13392, .f32⟩ : BufTy).Contents (Elt Ideal))

/-- The rotation angle of the token `p` of the batch `b` at the frequency `l`. -/
def angle (b : Fin 4) (p : Fin 4096) (l : Fin 64) : EReal := FloatOps.sitofp (F := Ideal) .f32 (x1 (ix2 b p)) * val_main_v13 (F := Ideal) (ix1 l)

/-- The two halves of a head turned by an angle, read at the lane `d` of the head `h`. -/
def rotate (T : S4x4096x8x128.Idx → EReal) (b : Fin 4) (p : Fin 4096) (h : Fin 8) (d : Fin 128) : EReal :=
  if g : d.val < 64 then
    T (ix4 b p h d) * Ideal.cos (angle x1 b p ⟨d.val, g⟩) - T (ix4 b p h ⟨64 + d.val, by omega⟩) * Ideal.sin (angle x1 b p ⟨d.val, g⟩)
  else
    T (ix4 b p h ⟨d.val - 64, by omega⟩) * Ideal.sin (angle x1 b p ⟨d.val - 64, by omega⟩) + T (ix4 b p h d) * Ideal.cos (angle x1 b p ⟨d.val - 64, by omega⟩)

/-- An entry of the product, as a sum. -/
theorem product (r : Fin 16384) (n : Fin 13392) :
    val_main_v2 (F := Ideal) x0 x2 (ix2 r n) = ∑ k : Fin 2048, x0 (ix2 r k) * x2 (ix3 0 k n) := by
  pointwise [val_main_v2, val_main_v0, val_main_v1]

/-- The product read by batch and position. -/
theorem split (b : Fin 4) (p : Fin 4096) (n : Fin 13392) :
    val_main_v3 (F := Ideal) x0 x2 (ix3 b p n) = val_main_v2 (F := Ideal) x0 x2 (ix2 ⟨b.val * 4096 + p.val, by omega⟩ n) := by
  refine shapeCast_apply _ _ _ _ ?_
  rewrite [Shape.rowMajor_val_two, Shape.rowMajor_val_three]
  show (b.val * 4096 + p.val) * 13392 + n.val = (b.val * 4096 + p.val) * 13392 + n.val
  rfl

/-- The columns of the queries read by head and lane. -/
theorem queryHeads (i : S4x4096x8x128.Idx) :
    val_main_v5 (F := Ideal) x0 x2 i = val_main_v4 (F := Ideal) x0 x2 (ix3 (i 0) (i 1) ⟨(i 2).val * 128 + (i 3).val, by idx_bounds; omega⟩) := by
  refine shapeCast_apply _ _ _ _ ?_
  rewrite [Shape.rowMajor_val_three, Shape.rowMajor_val_four]
  show ((i 0).val * 4096 + (i 1).val) * 1024 + ((i 2).val * 128 + (i 3).val) = (((i 0).val * 4096 + (i 1).val) * 8 + (i 2).val) * 128 + (i 3).val
  omega

/-- The columns of the keys read by head and lane. -/
theorem keyHeads (i : S4x4096x8x128.Idx) :
    val_main_v7 (F := Ideal) x0 x2 i = val_main_v6 (F := Ideal) x0 x2 (ix3 (i 0) (i 1) ⟨(i 2).val * 128 + (i 3).val, by idx_bounds; omega⟩) := by
  refine shapeCast_apply _ _ _ _ ?_
  rewrite [Shape.rowMajor_val_three, Shape.rowMajor_val_four]
  show ((i 0).val * 4096 + (i 1).val) * 1024 + ((i 2).val * 128 + (i 3).val) = (((i 0).val * 4096 + (i 1).val) * 8 + (i 2).val) * 128 + (i 3).val
  omega

/-- The columns of the queries within the product. -/
theorem querySlice (b : Fin 4) (p : Fin 4096) (n : Fin 1024) :
    val_main_v4 (F := Ideal) x0 x2 (ix3 b p n) = val_main_v3 (F := Ideal) x0 x2 (ix3 b p ⟨5200 + n.val, by omega⟩) := by
  pointwise [val_main_v4]

/-- The columns of the keys within the product. -/
theorem keySlice (b : Fin 4) (p : Fin 4096) (n : Fin 1024) :
    val_main_v6 (F := Ideal) x0 x2 (ix3 b p n) = val_main_v3 (F := Ideal) x0 x2 (ix3 b p ⟨6224 + n.val, by omega⟩) := by
  pointwise [val_main_v6]

/-- The queries turned. -/
theorem queryTurn (b : Fin 4) (p : Fin 4096) (h : Fin 8) (d : Fin 128) :
    val_main_v36 (F := Ideal) x0 x1 x2 (ix4 b p h d) = rotate x1 (val_main_v5 (F := Ideal) x0 x2) b p h d := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14]
  unfold rotate angle
  by_cases g : d.val < 64
  · rw [dif_pos g, dif_pos g]
  · have e : (⟨64 + (d.val - 64), by omega⟩ : Fin 128) = d := Fin.ext (by show 64 + (d.val - 64) = d.val; omega)
    rw [dif_neg g, dif_neg g, e]

/-- The frequencies for the keys are those for the queries. -/
theorem frequency (l : Fin 64) : val_main_v42 (F := Ideal) (ix1 l) = val_main_v13 (F := Ideal) (ix1 l) := rfl

/-- The keys turned. -/
theorem keyTurn (b : Fin 4) (p : Fin 4096) (h : Fin 8) (d : Fin 128) :
    val_main_v65 (F := Ideal) x0 x1 x2 (ix4 b p h d) = rotate x1 (val_main_v7 (F := Ideal) x0 x2) b p h d := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43]
  unfold rotate angle
  by_cases g : d.val < 64
  · rw [dif_pos g, dif_pos g, frequency]
  · have e : (⟨64 + (d.val - 64), by omega⟩ : Fin 128) = d := Fin.ext (by show 64 + (d.val - 64) = d.val; omega)
    rw [dif_neg g, dif_neg g, e, frequency]

/-- The keys times the scale. -/
theorem keyScale (i : S4x4096x8x128.Idx) :
    val_main_v67 (F := Ideal) x0 x1 x2 i = val_main_v65 (F := Ideal) x0 x1 x2 i * Scalar.ofBits (F := Ideal) .f32 0x3DB504F3#32 := by
  pointwise [val_main_v67, val_main_v66, val_main_cst_3]

/-- The turned queries read by row and column. -/
theorem queryRows (r : Fin 16384) (n : Fin 1024) :
    val_main_v68 (F := Ideal) x0 x1 x2 (ix2 r n) = val_main_v36 (F := Ideal) x0 x1 x2
      (ix4 ⟨r.val / 4096, by omega⟩ ⟨r.val % 4096, by omega⟩ ⟨n.val / 128, by omega⟩ ⟨n.val % 128, by omega⟩) := by
  refine shapeCast_apply _ _ _ _ ?_
  rewrite [Shape.rowMajor_val_four, Shape.rowMajor_val_two]
  show ((r.val / 4096 * 4096 + r.val % 4096) * 8 + n.val / 128) * 128 + n.val % 128 = r.val * 1024 + n.val
  omega

/-- The turned keys read by row and column. -/
theorem keyRows (r : Fin 16384) (n : Fin 1024) :
    val_main_v69 (F := Ideal) x0 x1 x2 (ix2 r n) = val_main_v67 (F := Ideal) x0 x1 x2
      (ix4 ⟨r.val / 4096, by omega⟩ ⟨r.val % 4096, by omega⟩ ⟨n.val / 128, by omega⟩ ⟨n.val % 128, by omega⟩) := by
  refine shapeCast_apply _ _ _ _ ?_
  rewrite [Shape.rowMajor_val_four, Shape.rowMajor_val_two]
  show ((r.val / 4096 * 4096 + r.val % 4096) * 8 + n.val / 128) * 128 + n.val % 128 = r.val * 1024 + n.val
  omega

/-- The result is the queries and then the keys. -/
theorem joined (r : Fin 16384) (n : Fin 2048) :
    val_main_v70 (F := Ideal) x0 x1 x2 (ix2 r n) = if h : n.val < 1024 then val_main_v68 (F := Ideal) x0 x1 x2 (ix2 r ⟨n.val, h⟩)
      else val_main_v69 (F := Ideal) x0 x1 x2 (ix2 r ⟨n.val - 1024, by omega⟩) := by
  pointwise [val_main_v70]

/-- The narrowing at the end changes no value. -/
theorem narrowed (i : S16384x2048.Idx) : val_main_v71 (F := Ideal) x0 x1 x2 i = val_main_v70 (F := Ideal) x0 x1 x2 i := by
  rw [val_main_v71_apply]
  generalize val_main_v70 (F := Ideal) x0 x1 x2 i = y
  rfl

/-- An entry of the queries within the product. -/
theorem queryAt (b : Fin 4) (p : Fin 4096) (h : Fin 8) (d : Fin 128) :
    val_main_v5 (F := Ideal) x0 x2 (ix4 b p h d) = val_main_v2 (F := Ideal) x0 x2 (ix2 ⟨b.val * 4096 + p.val, by omega⟩ ⟨5200 + (h.val * 128 + d.val), by omega⟩) :=
  (queryHeads x0 x2 _).trans ((querySlice x0 x2 b p _).trans (split x0 x2 b p _))

/-- An entry of the keys within the product. -/
theorem keyAt (b : Fin 4) (p : Fin 4096) (h : Fin 8) (d : Fin 128) :
    val_main_v7 (F := Ideal) x0 x2 (ix4 b p h d) = val_main_v2 (F := Ideal) x0 x2 (ix2 ⟨b.val * 4096 + p.val, by omega⟩ ⟨6224 + (h.val * 128 + d.val), by omega⟩) :=
  (keyHeads x0 x2 _).trans ((keySlice x0 x2 b p _).trans (split x0 x2 b p _))

/-- The entry times the cosine, plus the entry half a head away times the signed sine, is the head turned. -/
theorem turnedHead (G : S4x4096x8x128.Idx → EReal) (b : Fin 4) (p : Fin 4096) (h : Fin 8) (d : Fin 128) (u v : EReal)
    (hu : u = G (ix4 b p h d)) (hv : v = G (ix4 b p h ⟨(d.val + 64) % 128, by omega⟩)) :
    u * Ideal.cos (angle x1 b p ⟨d.val % 64, by omega⟩)
      + v * (if d.val < 64 then 0 - Ideal.sin (angle x1 b p ⟨d.val % 64, by omega⟩) else Ideal.sin (angle x1 b p ⟨d.val % 64, by omega⟩))
      = rotate x1 G b p h d := by
  subst hu hv
  unfold rotate
  by_cases g : d.val < 64
  · have e : (⟨d.val % 64, by omega⟩ : Fin 64) = ⟨d.val, g⟩ := Fin.ext (Nat.mod_eq_of_lt g)
    have e' : (⟨(d.val + 64) % 128, by omega⟩ : Fin 128) = ⟨64 + d.val, by omega⟩ := Fin.ext (by show (d.val + 64) % 128 = 64 + d.val; omega)
    rw [if_pos g, dif_pos g, e, e', zero_sub, mul_neg, ← sub_eq_add_neg]
  · have e : (⟨d.val % 64, by omega⟩ : Fin 64) = ⟨d.val - 64, by omega⟩ := Fin.ext (by show d.val % 64 = d.val - 64; omega)
    have e' : (⟨(d.val + 64) % 128, by omega⟩ : Fin 128) = ⟨d.val - 64, by omega⟩ := Fin.ext (by show (d.val + 64) % 128 = d.val - 64; omega)
    rw [if_neg g, dif_neg g, e, e', add_comm]

/-- The result on a column of the queries is the head turned. -/
theorem query (r : Fin 16384) (n : Fin 2048) (g : n.val < 1024) :
    val_main_v71 (F := Ideal) x0 x1 x2 (ix2 r n) = rotate x1 (val_main_v5 (F := Ideal) x0 x2)
      ⟨r.val / 4096, by omega⟩ ⟨r.val % 4096, by omega⟩ ⟨n.val / 128, by omega⟩ ⟨n.val % 128, by omega⟩ := by
  refine (narrowed x0 x1 x2 _).trans ((joined x0 x1 x2 r n).trans ?_)
  rw [dif_pos g]
  exact (queryRows x0 x1 x2 r _).trans (queryTurn x0 x1 x2 _ _ _ _)

/-- The result on a column of the keys is the head turned, times the scale. -/
theorem key (r : Fin 16384) (n : Fin 2048) (g : ¬ n.val < 1024) :
    val_main_v71 (F := Ideal) x0 x1 x2 (ix2 r n) = rotate x1 (val_main_v7 (F := Ideal) x0 x2)
      ⟨r.val / 4096, by omega⟩ ⟨r.val % 4096, by omega⟩ ⟨(n.val - 1024) / 128, by omega⟩ ⟨(n.val - 1024) % 128, by omega⟩
      * Scalar.ofBits (F := Ideal) .f32 0x3DB504F3#32 := by
  refine (narrowed x0 x1 x2 _).trans ((joined x0 x1 x2 r n).trans ?_)
  rw [dif_neg g]
  refine (keyRows x0 x1 x2 r _).trans ((keyScale x0 x1 x2 _).trans ?_)
  rw [keyTurn]

end Cert.RopeRef

end

end
-- ==== Proof.RopeProj.lean ====
module

public import proofs.«01_k».proof.Proof.Gen.KernelIdeal.Value
public import proofs.«01_k».proof.Proof.Gen.ReferenceIdeal.Read
public import proofs.«01_k».proof.Proof.RopeRef
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RopeProj

open Cert.KernelIdeal Cert.KernelIdeal.Gen

variable (m : (ℓ : Loc nD τ sig) → Buf (Elt Ideal) ℓ)

/-- The blocks each window is at, at the grid point `t`. -/
theorem idx : ∀ t : Fin cfg0.N, win0_0.index t = ![t.val / 4, 0]
    ∧ win0_1.index t = ![5200 + t.val % 4 * 512, 0]
    ∧ win0_2.index t = ![t.val / 4, 0] ∧ win0_3.index t = ![0, 0] ∧ win0_4.index t = ![t.val / 4, t.val % 4] :=
  (by decide +kernel : ∀ t : Fin grid0.N, _)

/-- The place in the weights of an entry of the block that window 1 holds: the block starts at the element the index map names. -/
theorem emb1 (t : Fin cfg0.N) (y : (win0_1.xblock (grid0.coords t)).Idx) (a : Fin win0_1.shape.rank) :
    (((win0_1.blk t).view.emb y a : Fin _) : ℕ) = win0_1.index t a + y a :=
  win0_1.rect_emb_val_off t y a

/-- The lane of the packed angles that holds the angle for an entry of a table. -/
def lane (y : S2048x128.Idx) : Fin 128 := ⟨(y 0).val / 1024 * 64 + (y 1).val % 64, by have h := (y 0).isLt; have e : S2048x128.size 0 = 2048 := rfl; omega⟩

/-- The angle for an entry of a table, from the packed positions and the frequencies. -/
def tileAngle (p : Vec Ideal S1024x128 .i32) (q : Vec Ideal S1x128 .f32) (y : S2048x128.Idx) : EReal :=
  k0_pay3 (F := Ideal) p q (ix2 ⟨(y 0).val % 1024, by omega⟩ (lane y))

/-- A choice by comparing a lane with 64. -/
theorem lanes {a : ℕ} (h : a < 128) {α : Type} (u v : α) :
    Scalar.select (IntOp.cmpi CmpIPredicate.slt (BitVec.ofNat 32 a) 64#32) u v = if a < 64 then u else v := by
  rw [WordCmp.cmpi_slt_ofNat (w := 32) (by norm_num; omega) (by norm_num)]
  by_cases hl : a < 64 <;> simp [hl, Scalar.select]

/-- A function of a two-axis index takes the same value where the coordinates are equal. -/
theorem at2 {n k : ℕ} {α : Type} (f : (⟨2, ![n, k]⟩ : Shape).Idx → α) (i j : (⟨2, ![n, k]⟩ : Shape).Idx)
    (h0 : (i 0).val = (j 0).val) (h1 : (i 1).val = (j 1).val) : f i = f j :=
  congrArg f (funext (Fin.forall_fin_succ.mpr ⟨Fin.ext h0, Fin.forall_fin_one.mpr (Fin.ext h1)⟩))

/-- The two stores of the first table make the cosines of the angles. -/
theorem cosTiles (p : Vec Ideal S1024x128 .i32) (q : Vec Ideal S1x128 .f32) (y : S2048x128.Idx) :
    View.canon (Val := Elt Ideal) (e := .f32) [⟨Rect.unit (s := S2048x128) ![1024, 0] ![1024, 128] inb_S2048x128_S1024x128_1024_0, k0_pay10 (F := Ideal) p q⟩,
      ⟨Rect.unit (s := S2048x128) ![0, 0] ![1024, 128] inb_S2048x128_S1024x128_0_0, k0_pay9 (F := Ideal) p q⟩] y = Ideal.cos (tileAngle p q y) := by
  canon_tiles x h
  all_goals pointwise [k0_pay10, k0_pay9, k0_pay8, k0_pay6, k0_pay4, tileAngle, lane]
  all_goals rw [lanes x1_lt]
  all_goals split_ifs with hl
  all_goals exact congrArg Ideal.cos (at2 _ _ _ (by dsimp [ix2]; omega) (by dsimp [ix2]; omega))

/-- The two stores of the second table make the sines of the angles, negated in the first half of the lanes. -/
theorem sinTiles (p : Vec Ideal S1024x128 .i32) (q : Vec Ideal S1x128 .f32) (y : S2048x128.Idx) :
    View.canon (Val := Elt Ideal) (e := .f32) [⟨Rect.unit (s := S2048x128) ![1024, 0] ![1024, 128] inb_S2048x128_S1024x128_1024_0, k0_pay12 (F := Ideal) p q⟩,
      ⟨Rect.unit (s := S2048x128) ![0, 0] ![1024, 128] inb_S2048x128_S1024x128_0_0, k0_pay11 (F := Ideal) p q⟩] y
      = if (y 1).val < 64 then 0 - Ideal.sin (tileAngle p q y) else Ideal.sin (tileAngle p q y) := by
  canon_tiles x h
  all_goals pointwise [k0_pay11, k0_pay12, k0_pay8, k0_pay7, k0_pay5, tileAngle, lane]
  all_goals rw [lanes x1_lt]
  all_goals split_ifs with hl hm
  all_goals first
    | omega
    | exact congrArg (fun z => 0 - Ideal.sin z) (at2 _ _ _ (by dsimp [ix2]; omega) (by dsimp [ix2]; omega))
    | exact congrArg Ideal.sin (at2 _ _ _ (by dsimp [ix2]; omega) (by dsimp [ix2]; omega))

/-- A product turned by the tables `C` and `S`: the entry times `C`, plus the entry half a head away times `S`, all times `s`. -/
def turn (T : FVec Ideal S2048x512 .f32) (C S : Vec Ideal S2048x128 .f32) (s : EReal) (y : S2048x512.Idx) : EReal :=
  (T y * C (ix2 (y 0) ⟨(y 1).val % 128, by omega⟩)
    + T (ix2 (y 0) ⟨(y 1).val / 128 * 128 + ((y 1).val % 128 + 64) % 128, by have h := (y 1).isLt; have e : S2048x512.size 1 = 512 := rfl; omega⟩)
      * S (ix2 (y 0) ⟨(y 1).val % 128, by omega⟩)) * s

/-- The four stores of the result, one for each head of the block, make the product turned. -/
theorem four (i : grid0.Coords) (x0 : Vec Ideal S2048x2048 .bf16) (x1 : Vec Ideal S512x2048 .f32) (C S : Vec Ideal S2048x128 .f32) (y : S2048x512.Idx) :
    View.canon (Val := Elt Ideal) (e := .bf16)
      [⟨Rect.unit (s := S2048x512) ![0, 384] ![2048, 128] inb_S2048x512_S2048x128_0_384, k0_pay2 (F := Ideal) (k0_pay13 x0 x1) C S (k0_pay14 i)⟩,
        ⟨Rect.unit (s := S2048x512) ![0, 256] ![2048, 128] inb_S2048x512_S2048x128_0_256, k0_pay1 (F := Ideal) (k0_pay14 i) (k0_pay18 x0 x1 C) (k0_pay19 x0 x1 S)⟩,
        ⟨Rect.unit (s := S2048x512) ![0, 128] ![2048, 128] inb_S2048x512_S2048x128_0_128, k0_pay16 (F := Ideal) i x0 x1 C S⟩,
        ⟨Rect.unit (s := S2048x512) ![0, 0] ![2048, 128] inb_S2048x512_S2048x128_0_0, k0_pay15 (F := Ideal) i x0 x1 C S⟩] y
      = turn (k0_pay13 (F := Ideal) x0 x1) C S (k0_pay14 (F := Ideal) i) y := by
  generalize hT : k0_pay13 (F := Ideal) x0 x1 = T
  canon_tiles x h
  all_goals (try rw [← hT]); pointwise [k0_pay2, k0_pay1, k0_pay18, k0_pay19, k0_pay17, k0_pay16, k0_pay15, turn]
  all_goals exact congrArg (· * _) (congrArg₂ (· + ·)
    (congrArg₂ (· * ·) (at2 _ _ _ (by dsimp [ix2]; omega) (by dsimp [ix2]; omega)) (at2 _ _ _ (by dsimp [ix2]; omega) (by dsimp [ix2]; omega)))
    (congrArg₂ (· * ·) (at2 _ _ _ (by dsimp [ix2]; omega) (by dsimp [ix2]; omega)) (at2 _ _ _ (by dsimp [ix2]; omega) (by dsimp [ix2]; omega))))

/-- The index of an entry in the whole of a table is itself. -/
theorem idxSelf (j : S2048x128.Idx) (inb) : (Rect.unit (s := S2048x128) ![0, 0] ![2048, 128] inb).toLoadRect.idx j = j := by
  funext a
  refine Fin.ext ?_
  match a with
  | ⟨0, _⟩ => show 0 + 1 * (j 0).val = (j 0).val; omega
  | ⟨1, _⟩ => show 0 + 1 * (j 1).val = (j 1).val; omega

/-- On the first of the four grid points of a row block the tables are made from the positions and the frequencies. -/
theorem tables (c : Dev nD) (t : Fin cfg0.N) (h : t.val % 4 = 0) :
    (outsAt0 m c t.val t.isLt).2 = (fun y => Ideal.cos (tileAngle (iblk m c 2 t) (iblk m c 3 t) y),
      fun y => if (y 1).val < 64 then 0 - Ideal.sin (tileAngle (iblk m c 2 t) (iblk m c 3 t) y) else Ideal.sin (tileAngle (iblk m c 2 t) (iblk m c 3 t) y)) := by
  rw [outsAt0_A m c t h]
  refine Prod.ext (funext fun y => ?_) (funext fun y => ?_)
  · frame_out
    exact cosTiles _ _ y
  · frame_out
    exact sinTiles _ _ y

/-- On the other grid points of a row block the tables stay as they were. -/
theorem kept (c : Dev nD) (t : Fin cfg0.N) (h : ¬ t.val % 4 = 0) :
    (outsAt0 m c t.val t.isLt).2 = (outsAt0 m c (t.val - 1) (Nat.lt_of_le_of_lt (Nat.sub_le _ _) t.isLt)).2 := by
  rw [outsAt0_B m c t h]
  rfl

/-- The block written at `t` is the product turned by the tables as they stand after `t`. -/
theorem turned (c : Dev nD) (t : Fin cfg0.N) (y : S2048x512.Idx) : (outsAt0 m c t.val t.isLt).1 y
    = turn (k0_pay13 (F := Ideal) (iblk m c 0 t) (iblk m c 1 t)) (outsAt0 m c t.val t.isLt).2.1 (outsAt0 m c t.val t.isLt).2.2 (k0_pay14 (F := Ideal) (grid0.coords t)) y := by
  by_cases h : t.val % 4 = 0
  · have e1 := congrArg Prod.fst (tables m c t h)
    have e2 := congrArg Prod.snd (tables m c t h)
    rw [e1, e2, outsAt0_A m c t h]
    frame_out
    simp only [View.readCov_eq_canon']
    refine (four _ _ _ _ _ y).trans ?_
    exact congrArg₂ (fun C S => turn _ C S _ y)
      (funext fun j => (cosTiles _ _ _).trans (congrArg (fun y => Ideal.cos (tileAngle _ _ y)) (idxSelf j _)))
      (funext fun j => (sinTiles _ _ _).trans (congrArg (fun y : S2048x128.Idx => if (y 1).val < 64 then 0 - Ideal.sin (tileAngle _ _ y) else Ideal.sin (tileAngle _ _ y)) (idxSelf j _)))
  · rw [kept m c t h, outsAt0_B m c t h]
    frame_out
    simp only [read_unread_whole]
    exact four _ _ _ _ _ y

/-- The frequencies handed to the kernel are the plain program's, twice over. -/
theorem freqs (c : Dev nD) (i : S1x128.Idx) : V m c main_v9 i = Cert.ReferenceIdeal.Read.val_main_v13 (F := Ideal) (ix1 ⟨(i 1).val % 64, by omega⟩) := by
  entry_read
  pointwise [Cert.ReferenceIdeal.Read.val_main_v13, Cert.ReferenceIdeal.Read.val_main_v12, Cert.ReferenceIdeal.Read.val_main_cst_0, Cert.ReferenceIdeal.Read.val_main_v11, Cert.ReferenceIdeal.Read.val_main_v10, Cert.ReferenceIdeal.Read.val_main_cst, Cert.ReferenceIdeal.Read.val_main_v9, Cert.ReferenceIdeal.Read.val_main_v8]
  by_cases h : (i 1).val < 64
  · rw [dif_pos h, Nat.mod_eq_of_lt h]
  · have h1 : (i 1).val < 128 := (i 1).isLt
    rw [dif_neg h, show (i 1).val % 64 = (i 1).val - 64 by omega]

/-- The packed positions: in each row of 128 lanes the position of one token and of the token 1024 further on. -/
theorem places (c : Dev nD) (i : S8192x128.Idx) : V m c main_v18 i = m ((c : Thread nD τ).loc main_arg1)
    (ix2 ⟨((i 0).val / 1024 * 2048 + (i 1).val / 64 * 1024 + (i 0).val % 1024) / 4096, by idx_bounds; omega⟩
      ⟨((i 0).val / 1024 * 2048 + (i 1).val / 64 * 1024 + (i 0).val % 1024) % 4096, by omega⟩) := by
  entry_read
  pointwise
  have h1 : (i 1).val < 128 := (i 1).isLt
  by_cases h : (i 1).val < 64
  · rw [dif_pos h]
    blk_ext
  · rw [dif_neg h]
    blk_ext

/-- The array the weight blocks are taken from is the transpose of the weights given. -/
theorem weights (c : Dev nD) (i : S13392x2048.Idx) : V m c main_v1 i = m ((c : Thread nD τ).loc main_arg2) (ix3 0 (i 1) (i 0)) := by
  entry_read
  pointwise

/-- The place in the result of an entry of the block written at `t`. -/
theorem place (t : Fin cfg0.N) (y) : (((cfg0.win 4).blk t).view.emb y)
    = ix2 ⟨t.val / 4 * 2048 + (y 0).val, by idx_bounds; omega⟩ ⟨t.val % 4 * 512 + (y 1).val, by idx_bounds; omega⟩ := by
  blk_ext [idx t]

/-- The rows of the activations the grid point `t` reads. -/
theorem rows (c : Dev nD) (t : Fin cfg0.N) (y : (win0_0.xblock (grid0.coords t)).Idx) : iblk m c 0 t y
    = m ((c : Thread nD τ).loc main_arg0) (ix2 ⟨t.val / 4 * 2048 + (y 0).val, by idx_bounds; omega⟩ (y 1)) := by
  blk_point [iblk, idx t]

/-- The columns of the weights the grid point `t` reads. -/
theorem columns (c : Dev nD) (t : Fin cfg0.N) (y : (win0_1.xblock (grid0.coords t)).Idx) : iblk m c 1 t y
    = m ((c : Thread nD τ).loc main_arg2) (ix3 0 (y 1) ⟨5200 + t.val % 4 * 512 + (y 0).val, by idx_bounds; omega⟩) := by
  refine (weights m c _).trans (congrArg (m ((c : Thread nD τ).loc main_arg2)) (funext (Fin.forall_fin_succ.mpr ⟨rfl, Fin.forall_fin_succ.mpr ⟨?_, Fin.forall_fin_one.mpr ?_⟩⟩)))
  · exact Fin.ext ((emb1 t y 1).trans (by rw [(idx t).2.1]; exact Nat.zero_add _))
  · exact Fin.ext ((emb1 t y 0).trans (by rw [(idx t).2.1]; rfl))

/-- The packed positions the grid point `t` reads. -/
theorem tokens (c : Dev nD) (t : Fin cfg0.N) (y : (win0_2.xblock (grid0.coords t)).Idx) : iblk m c 2 t y
    = V m c main_v18 (ix2 ⟨t.val / 4 * 1024 + (y 0).val, by idx_bounds; omega⟩ (y 1)) := by
  blk_point [iblk, idx t]

/-- The frequencies, as every grid point reads them. -/
theorem frequencies (c : Dev nD) (t : Fin cfg0.N) (y : (win0_3.xblock (grid0.coords t)).Idx) : iblk m c 3 t y
    = V m c main_v9 (ix2 0 (y 1)) := by
  blk_point [iblk, idx t]

/-- A packed angle is the position times the frequency. -/
theorem opened (p : Vec Ideal S1024x128 .i32) (q : Vec Ideal S1x128 .f32) (a : Fin 1024) (b : Fin 128) :
    k0_pay3 (F := Ideal) p q (ix2 a b) = FloatOps.sitofp (F := Ideal) .f32 (p (ix2 a b)) * q (ix2 0 b) := by
  pointwise [k0_pay3]

/-- An entry of the product, as a sum. -/
theorem product (w : Vec Ideal S512x2048 .f32) (h : Vec Ideal S2048x2048 .bf16) (y : S2048x512.Idx) :
    k0_pay13 (F := Ideal) h w y = ∑ x : Fin 2048, (h (ix2 (y 0) x) * w (ix2 (y 1) x) : EReal) := by
  pointwise [k0_pay13]

/-- The angle for an entry of the tables at `t` is the plain program's angle of that token and frequency. -/
theorem tableAngle (c : Dev nD) (t : Fin cfg0.N) (y : S2048x128.Idx) : tileAngle (iblk m c 2 t) (iblk m c 3 t) y
    = Cert.RopeRef.angle (m ((c : Thread nD τ).loc main_arg1)) ⟨(t.val / 4 * 2048 + (y 0).val) / 4096 % 4, by omega⟩
      ⟨(t.val / 4 * 2048 + (y 0).val) % 4096, by omega⟩ ⟨(y 1).val % 64, by omega⟩ := by
  have h0 : (y 0).val < 2048 := (y 0).isLt
  have h1 : (y 1).val < 128 := (y 1).isLt
  have ht : t.val < 32 := t.isLt
  unfold tileAngle Cert.RopeRef.angle
  rw [opened, tokens, frequencies, places, freqs]
  refine congrArg₂ (· * ·) (congrArg (FloatOps.sitofp (F := Ideal) .f32) (at2 _ _ _ ?_ ?_)) (congrArg _ (congrArg ix1 (Fin.ext ?_)))
  · dsimp [ix2, lane]
    omega
  · dsimp [ix2, lane]
    omega
  · dsimp [ix2, lane]
    omega

/-- The first table of the row block `k`. -/
def cosTable (c : Dev nD) (k : ℕ) (y : S2048x128.Idx) : EReal :=
  Ideal.cos (Cert.RopeRef.angle (m ((c : Thread nD τ).loc main_arg1)) ⟨(k * 2048 + (y 0).val) / 4096 % 4, by omega⟩
    ⟨(k * 2048 + (y 0).val) % 4096, by omega⟩ ⟨(y 1).val % 64, by omega⟩)

/-- The second table of the row block `k`. -/
def sinTable (c : Dev nD) (k : ℕ) (y : S2048x128.Idx) : EReal :=
  if (y 1).val < 64 then 0 - Ideal.sin (Cert.RopeRef.angle (m ((c : Thread nD τ).loc main_arg1)) ⟨(k * 2048 + (y 0).val) / 4096 % 4, by omega⟩
    ⟨(k * 2048 + (y 0).val) % 4096, by omega⟩ ⟨(y 1).val % 64, by omega⟩)
  else Ideal.sin (Cert.RopeRef.angle (m ((c : Thread nD τ).loc main_arg1)) ⟨(k * 2048 + (y 0).val) / 4096 % 4, by omega⟩
    ⟨(k * 2048 + (y 0).val) % 4096, by omega⟩ ⟨(y 1).val % 64, by omega⟩)

/-- After each grid point the tables are those of its row block. -/
theorem scratch (c : Dev nD) : ∀ n (h : n < cfg0.N), (outsAt0 m c n h).2 = (cosTable m c (n / 4), sinTable m c (n / 4)) := by
  intro n
  induction n with
  | zero =>
    intro h
    refine (tables m c ⟨0, h⟩ rfl).trans (Prod.ext (funext fun y => ?_) (funext fun y => ?_)) <;> dsimp only
    · rw [tableAngle]; rfl
    · rw [tableAngle]; rfl
  | succ n ih =>
    intro h
    by_cases g : (n + 1) % 4 = 0
    · refine (tables m c ⟨n + 1, h⟩ g).trans (Prod.ext (funext fun y => ?_) (funext fun y => ?_)) <;> dsimp only
      · rw [tableAngle]; rfl
      · rw [tableAngle]; rfl
    · refine (kept m c ⟨n + 1, h⟩ g).trans ((ih _).trans ?_)
      rw [show (n + 1) / 4 = n / 4 by omega]

/-- The factor at `t`: 1 on the columns of the queries, the key scale on those of the keys. -/
theorem scale (t : Fin cfg0.N) : k0_pay14 (F := Ideal) (grid0.coords t)
    = if t.val % 4 < 2 then (1 : EReal) else Scalar.ofBits (F := Ideal) .f32 0x3DB504F3#32 := by
  have h : k0_pay14 (F := Ideal) (grid0.coords t) = Scalar.select (if t.val % 4 < 2 then 0#1 else 1#1) (Scalar.ofBits (F := Ideal) .f32 0x3DB504F3#32) (Scalar.ofBits (F := Ideal) .f32 0x3F800000#32) := by
    unfold k0_pay14
    exact congrArg (fun b => Scalar.select b _ _) ((by decide +kernel : ∀ t : Fin grid0.N, Scalar.cmpi .sge (BitVec.ofNat 32 ((grid0.coords t) 1).val) 2#32 = if t.val % 4 < 2 then 0#1 else 1#1) t)
  rw [h]
  by_cases g : t.val % 4 < 2
  · rw [if_pos g, if_pos g]
    exact Ideal.ofBits_one_f32
  · rw [if_neg g, if_neg g]
    rfl

/-- An entry of the product at `t` is the plain program's product at the same place. -/
theorem dots (c : Dev nD) (t : Fin cfg0.N) (y : S2048x512.Idx) : k0_pay13 (F := Ideal) (iblk m c 0 t) (iblk m c 1 t) y
    = Cert.ReferenceIdeal.Read.val_main_v2 (F := Ideal) (m ((c : Thread nD τ).loc main_arg0)) (m ((c : Thread nD τ).loc main_arg2))
      (ix2 ⟨t.val / 4 * 2048 + (y 0).val, by idx_bounds; omega⟩ ⟨5200 + t.val % 4 * 512 + (y 1).val, by idx_bounds; omega⟩) := by
  rw [Cert.RopeRef.product, product]
  refine Finset.sum_congr rfl fun x _ => ?_
  rw [rows, columns]
  rfl

/-- If the product at `t` is `G` along a head, the block written at `t` is that head of `G` turned, times the factor. -/
theorem heads (c : Dev nD) (t : Fin cfg0.N) (y : S2048x512.Idx) (G : Cert.ReferenceIdeal.S4x4096x8x128.Idx → EReal) (h : Fin 8)
    (hG : ∀ d : Fin 128, k0_pay13 (F := Ideal) (iblk m c 0 t) (iblk m c 1 t) (ix2 (y 0) ⟨(y 1).val / 128 * 128 + d.val, by idx_bounds; omega⟩)
      = G (ix4 ⟨(t.val / 4 * 2048 + (y 0).val) / 4096, by idx_bounds; omega⟩ ⟨(t.val / 4 * 2048 + (y 0).val) % 4096, by omega⟩ h d)) :
    (outsAt0 m c t.val t.isLt).1 y
      = Cert.RopeRef.rotate (m ((c : Thread nD τ).loc main_arg1)) G ⟨(t.val / 4 * 2048 + (y 0).val) / 4096, by idx_bounds; omega⟩
          ⟨(t.val / 4 * 2048 + (y 0).val) % 4096, by omega⟩ h ⟨(y 1).val % 128, by omega⟩ * k0_pay14 (F := Ideal) (grid0.coords t) := by
  have h0 : (y 0).val < 2048 := (y 0).isLt
  have h1 : (y 1).val < 512 := (y 1).isLt
  have ht : t.val < 32 := t.isLt
  rw [turned, scratch]
  refine congrArg (· * _) (Eq.trans ?_ (Cert.RopeRef.turnedHead (m ((c : Thread nD τ).loc main_arg1)) G
    ⟨(t.val / 4 * 2048 + (y 0).val) / 4096, by omega⟩ ⟨(t.val / 4 * 2048 + (y 0).val) % 4096, by omega⟩ h ⟨(y 1).val % 128, by omega⟩
    _ _ (hG ⟨(y 1).val % 128, by omega⟩) (hG ⟨((y 1).val % 128 + 64) % 128, by omega⟩)))
  · have e : (⟨(t.val / 4 * 2048 + (y 0).val) / 4096 % 4, by omega⟩ : Fin 4) = ⟨(t.val / 4 * 2048 + (y 0).val) / 4096, by omega⟩ := Fin.ext (by dsimp only; omega)
    unfold cosTable sinTable
    dsimp only [ix2]
    simp only [e]
    refine congrArg (fun z : EReal => z * _ + _) (at2 _ _ _ rfl ?_)
    dsimp [ix2]
    omega

/-- An entry of the block written at `t` is the plain program's entry at the same place. -/
theorem point (c : Dev nD) (t : Fin cfg0.N) (y : S2048x512.Idx) : (outsAt0 m c t.val t.isLt).1 y
    = Cert.ReferenceIdeal.Read.val_main_v71 (F := Ideal) (m ((c : Thread nD τ).loc main_arg0)) (m ((c : Thread nD τ).loc main_arg1))
      (m ((c : Thread nD τ).loc main_arg2)) (((cfg0.win 4).blk t).view.emb y) := by
  have h0 : (y 0).val < 2048 := (y 0).isLt
  have h1 : (y 1).val < 512 := (y 1).isLt
  have ht : t.val < 32 := t.isLt
  rw [place]
  by_cases g : t.val % 4 < 2
  · refine Eq.trans ?_ (Cert.RopeRef.query _ _ _ _ _ (show t.val % 4 * 512 + (y 1).val < 1024 by omega)).symm
    refine (heads m c t y (Cert.ReferenceIdeal.Read.val_main_v5 (F := Ideal) (m ((c : Thread nD τ).loc main_arg0)) (m ((c : Thread nD τ).loc main_arg2)))
      ⟨(t.val % 4 * 512 + (y 1).val) / 128, by omega⟩ fun d => ?_).trans ?_
    · rw [dots, Cert.RopeRef.queryAt]
      exact at2 _ _ _ (by dsimp [ix2]; omega) (by dsimp [ix2]; omega)
    · rw [scale, if_pos g, mul_one]
      congr 1
      exact Fin.ext (by dsimp only; omega)
  · refine Eq.trans ?_ (Cert.RopeRef.key _ _ _ _ _ (show ¬ t.val % 4 * 512 + (y 1).val < 1024 by omega)).symm
    refine (heads m c t y (Cert.ReferenceIdeal.Read.val_main_v7 (F := Ideal) (m ((c : Thread nD τ).loc main_arg0)) (m ((c : Thread nD τ).loc main_arg2)))
      ⟨(t.val % 4 * 512 + (y 1).val - 1024) / 128, by omega⟩ fun d => ?_).trans ?_
    · rw [dots, Cert.RopeRef.keyAt]
      exact at2 _ _ _ (by dsimp [ix2]; omega) (by dsimp [ix2]; omega)
    · rw [scale, if_neg g]
      congr 2
      exact Fin.ext (by dsimp only; omega)

/-- After the last grid point the result is the plain program's. -/
theorem final (c : Dev nD) : (dats m 0 c).arrAt 4 cfg0.N
    = Cert.ReferenceIdeal.Read.val_main_v71 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.RopeProj

end

end
-- ==== Proof.AttProj.lean ====
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttProj

open Cert.Kernel2Ideal Cert.Kernel2Ideal.Gen

variable (m : (ℓ : Loc nD τ sig) → Buf (Elt Ideal) ℓ)

/-- The blocks each window is at, at the grid point `t`. -/
theorem idx : ∀ t : Fin cfg0.N, win0_0.index t = ![t.val / 8, 0]
    ∧ win0_1.index t = ![if t.val % 8 < 4 then t.val % 8 * 512 else t.val % 8 * 512 + 1024, 0]
    ∧ win0_2.index t = ![0, t.val % 8] ∧ win0_3.index t = ![t.val / 8, t.val % 8] :=
  (by decide +kernel : ∀ t : Fin grid0.N, _)

/-- The place in the weights of an entry of the block that window 1 holds: the block starts at the element the index map names. -/
theorem emb1 (t : Fin cfg0.N) (y : (win0_1.xblock (grid0.coords t)).Idx) (a : Fin win0_1.shape.rank) :
    (((win0_1.blk t).view.emb y a : Fin _) : ℕ) = win0_1.index t a + y a :=
  win0_1.rect_emb_val_off t y a

/-- The factor of each column: one for the first 1024, another for the last 1024, and 1 between. -/
theorem scales (c : Dev nD) (i : S1x4096.Idx) : V m c main_v10 i = (if (i 1).val < 1024 then Ideal.ofBits .f32 1040356334#32
    else if (i 1).val < 3072 then Ideal.ofBits .f32 0x3F800000#32 else Ideal.ofBits .f32 1040187392#32 : EReal) := by
  simp only [V, List.flatten_cons, List.flatten_nil, List.append_nil, List.cons_append, List.nil_append]
  entry_read
  simp -implicitDefEqProofs only [StableHlo.TRef.toBuf, StableHlo.TRef.ofBuf, cast_cast, cast_eq]
  pointwise
  have h : (i 1).val < 4096 := (i 1).isLt
  rw [WordCmp.cmpi_slt_ofNat (w := 32) (a := (i 1).val) (b := 1024) (by omega) (by norm_num),
    WordCmp.cmpi_slt_ofNat (w := 32) (a := (i 1).val) (b := 3072) (by omega) (by norm_num)]
  by_cases h1 : (i 1).val < 1024
  · simp [Scalar.select, h1]
  · by_cases h3 : (i 1).val < 3072
    · simp [Scalar.select, h1, h3]
    · simp [Scalar.select, h1, h3]

/-- The array the weight blocks are taken from is the transpose of the weights given. -/
theorem weights (c : Dev nD) (i : S13392x2048.Idx) : V m c main_v1 i = m ((c : Thread nD τ).loc main_arg1) (ix3 0 (i 1) (i 0)) := by
  simp only [V, List.flatten_cons, List.flatten_nil, List.append_nil, List.cons_append, List.nil_append]
  entry_read
  pointwise

/-- The place in the result of an entry of the block written at `t`. -/
theorem place (t : Fin cfg0.N) (y) : (((cfg0.win 3).blk t).view.emb y)
    = ix2 ⟨t.val / 8 * 2048 + (y 0).val, by idx_bounds; omega⟩ ⟨t.val % 8 * 512 + (y 1).val, by idx_bounds; omega⟩ := by
  blk_ext [idx t]

/-- The rows of the activations the grid point `t` reads. -/
theorem rows (c : Dev nD) (t : Fin cfg0.N) (y : (win0_0.xblock (grid0.coords t)).Idx) : iblk m c 0 t y
    = m ((c : Thread nD τ).loc main_arg0) (ix2 ⟨t.val / 8 * 2048 + (y 0).val, by idx_bounds; omega⟩ (y 1)) := by
  blk_point [iblk, idx t]

/-- The columns of the weights the grid point `t` reads: the last four blocks lie 1024 columns further on. -/
theorem columns (c : Dev nD) (t : Fin cfg0.N) (y : (win0_1.xblock (grid0.coords t)).Idx) : iblk m c 1 t y
    = m ((c : Thread nD τ).loc main_arg1) (ix3 0 (y 1)
      ⟨(if t.val % 8 < 4 then t.val % 8 * 512 else t.val % 8 * 512 + 1024) + (y 0).val, by idx_bounds; split <;> omega⟩) := by
  refine (weights m c _).trans (congrArg (m ((c : Thread nD τ).loc main_arg1)) (funext (Fin.forall_fin_succ.mpr ⟨rfl, Fin.forall_fin_succ.mpr ⟨?_, Fin.forall_fin_one.mpr ?_⟩⟩)))
  · exact Fin.ext ((emb1 t y 1).trans (by rw [(idx t).2.1]; exact Nat.zero_add _))
  · exact Fin.ext ((emb1 t y 0).trans (by rw [(idx t).2.1]; rfl))

/-- The factors of the columns the grid point `t` writes. -/
theorem scale (c : Dev nD) (t : Fin cfg0.N) (y : (win0_2.xblock (grid0.coords t)).Idx) : iblk m c 2 t y
    = (if t.val % 8 * 512 + (y 1).val < 1024 then Ideal.ofBits .f32 1040356334#32
    else if t.val % 8 * 512 + (y 1).val < 3072 then Ideal.ofBits .f32 0x3F800000#32 else Ideal.ofBits .f32 1040187392#32 : EReal) := by
  refine (scales m c _).trans ?_
  have e : ((((cfg0.win 2).blk t).view.emb y 1 : Fin _) : ℕ) = t.val % 8 * 512 + (y 1).val := by blk_simp [idx t]
  simp only [e]

/-- `rows` at a row and a column. -/
theorem rows' (c : Dev nD) (t : Fin cfg0.N) (a : Fin 2048) (x : Fin 2048) : iblk m c 0 t (ix2 a x)
    = m ((c : Thread nD τ).loc main_arg0) (ix2 ⟨t.val / 8 * 2048 + a.val, by idx_bounds; omega⟩ x) := rows m c t (ix2 a x)

/-- `columns` at a column and a row. -/
theorem columns' (c : Dev nD) (t : Fin cfg0.N) (a : Fin 512) (x : Fin 2048) : iblk m c 1 t (ix2 a x)
    = m ((c : Thread nD τ).loc main_arg1) (ix3 0 x
      ⟨(if t.val % 8 < 4 then t.val % 8 * 512 else t.val % 8 * 512 + 1024) + a.val, by idx_bounds; split <;> omega⟩) :=
  columns m c t (ix2 a x)

/-- `scale` at a column. -/
theorem scale' (c : Dev nD) (t : Fin cfg0.N) (a : Fin 512) : iblk m c 2 t (ix2 0 a)
    = (if t.val % 8 * 512 + a.val < 1024 then Ideal.ofBits .f32 1040356334#32
    else if t.val % 8 * 512 + a.val < 3072 then Ideal.ofBits .f32 0x3F800000#32 else Ideal.ofBits .f32 1040187392#32 : EReal) :=
  scale m c t (ix2 0 a)

open Cert.Reference2Ideal.Read in
set_option backward.isDefEq.respectTransparency false in
/-- An entry of the block written at `t` is the plain program's entry at the same place: one case for each part of the columns. -/
theorem point (c : Dev nD) (t : Fin cfg0.N) (y) : k0_pay1 (iblk m c 0 t) (iblk m c 1 t) (iblk m c 2 t) y
    = val_main_v12 (F := Ideal) (m ((c : Thread nD τ).loc main_arg0)) (m ((c : Thread nD τ).loc main_arg1)) (((cfg0.win 3).blk t).view.emb y) := by
  rw [place]
  pointwise [k0_pay1, val_main_v12, val_main_v11, val_main_v10, val_main_v9, val_main_cst_0, val_main_v8, val_main_v7, val_main_cst, val_main_v6, val_main_v5, val_main_v4, val_main_v3, val_main_v2, val_main_v1, val_main_v0]
  simp only [rows', columns', scale', Ideal.ofBits_one_f32]
  have h1 : (y 1).val < 512 := (y 1).isLt
  by_cases h : t.val % 8 * 512 + (y 1).val < 1024
  · have h4 : t.val % 8 < 4 := by omega
    simp only [h, h4, ↓reduceIte, ↓reduceDIte]
  · by_cases h' : t.val % 8 * 512 + (y 1).val - 1024 < 1024
    · have h4 : t.val % 8 < 4 := by omega
      have h3 : t.val % 8 * 512 + (y 1).val < 3072 := by omega
      have e : 1024 + (t.val % 8 * 512 + (y 1).val - 1024) = t.val % 8 * 512 + (y 1).val := by omega
      simp only [h, h', h3, h4, e, ↓reduceIte, ↓reduceDIte, mul_one]
    · have h4 : ¬ t.val % 8 < 4 := by omega
      by_cases h3 : t.val % 8 * 512 + (y 1).val < 3072
      · have h'' : t.val % 8 * 512 + (y 1).val - 1024 - 1024 < 1024 := by omega
        have e : 3072 + (t.val % 8 * 512 + (y 1).val - 1024 - 1024) = t.val % 8 * 512 + 1024 + (y 1).val := by omega
        simp only [h, h', h'', h3, h4, e, ↓reduceIte, ↓reduceDIte, mul_one]
      · have h'' : ¬ t.val % 8 * 512 + (y 1).val - 1024 - 1024 < 1024 := by omega
        have e : 4096 + (t.val % 8 * 512 + (y 1).val - 1024 - 1024 - 1024) = t.val % 8 * 512 + 1024 + (y 1).val := by omega
        simp only [h, h', h'', h3, h4, e, ↓reduceIte, ↓reduceDIte]

/-- After the last grid point the result is the plain program's. -/
theorem final (c : Dev nD) : (dats m 0 c).arrAt 3 cfg0.N
    = Cert.Reference2Ideal.Read.val_main_v12 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.AttProj

end

end
-- ==== Proof.ValueProj.lean ====
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValueProj

open Cert.Kernel3Ideal Cert.Kernel3Ideal.Gen

variable (m : (ℓ : Loc nD τ sig) → Buf (Elt Ideal) ℓ)

/-- The blocks each window is at, at the grid point `t`. -/
theorem idx : ∀ t : Fin cfg0.N, win0_0.index t = ![t.val / 2, 0]
    ∧ win0_1.index t = ![2048 + t.val % 2 * 512, 0]
    ∧ win0_2.index t = ![t.val / 4, t.val / 2 % 2, t.val % 2, 0] :=
  (by decide +kernel : ∀ t : Fin grid0.N, _)

/-- The place in the weights of an entry of the block that window 1 holds: the block starts at the element the index map names. -/
theorem emb1 (t : Fin cfg0.N) (y : (win0_1.xblock (grid0.coords t)).Idx) (a : Fin win0_1.shape.rank) :
    (((win0_1.blk t).view.emb y a : Fin _) : ℕ) = win0_1.index t a + y a :=
  win0_1.rect_emb_val_off t y a

/-- The block made from a product `T`: in each group of 144 rows the 128 value lanes of a head, then 16 rows of ones; positions by chunks of 256. -/
def tile (T : FVec Ideal S512x2048 .f32) (y : S1x8x576x256.Idx) : EReal :=
  if h : (y 2).val % 144 < 128 then
    T (ix2 ⟨(y 2).val / 144 * 128 + (y 2).val % 144, by idx_bounds; omega⟩ ⟨(y 1).val * 256 + (y 3).val, by idx_bounds; omega⟩)
  else 1

/-- A stored piece of 128 value rows holds the entries of `tile` at its place. -/
theorem tile_values (T : FVec Ideal S512x2048 .f32) (p r a b : ℕ) (hs : S512x2048.Slices ![a, b] S128x256)
    (inb : ∀ k, (![0, p, r, 0] : Fin 4 → ℕ) k + (![1, 1, 128, 256] : Fin 4 → ℕ) k ≤ S1x8x576x256.size k)
    (ha : r / 144 * 128 = a) (hr : r % 144 = 0) (hb : b = p * 256) (x : S1x1x128x256.Idx) :
    shapeCast S1x1x128x256 (truncf .bf16 (extractStridedSlice S128x256 ![a, b] T hs) bitsLt_bf16_f32) shapeCasts_S128x256_S1x1x128x256 x
      = tile T ((Rect.unit (s := S1x8x576x256) ![0, p, r, 0] ![1, 1, 128, 256] inb).emb x) := by
  have e2 : ((Rect.unit (s := S1x8x576x256) ![0, p, r, 0] ![1, 1, 128, 256] inb).emb x 2).val = r + 1 * (x 2).val := rfl
  have e1 : ((Rect.unit (s := S1x8x576x256) ![0, p, r, 0] ![1, 1, 128, 256] inb).emb x 1).val = p + 1 * (x 1).val := rfl
  have e3 : ((Rect.unit (s := S1x8x576x256) ![0, p, r, 0] ![1, 1, 128, 256] inb).emb x 3).val = 0 + 1 * (x 3).val := rfl
  rw [tile, dif_pos (by rw [e2]; idx_bounds; omega)]
  pointwise
  refine congrArg T ?_
  congr 1 <;> refine Fin.ext ?_ <;> simp only [e1, e2, e3] <;> idx_bounds <;> omega

/-- A stored piece of 16 rows of ones holds the entries of `tile` at its place. -/
theorem tile_ones (T : FVec Ideal S512x2048 .f32) (p r : ℕ)
    (inb : ∀ k, (![0, p, r, 0] : Fin 4 → ℕ) k + (![1, 1, 16, 256] : Fin 4 → ℕ) k ≤ S1x8x576x256.size k)
    (hr : r % 144 = 128) (x : S1x1x16x256.Idx) :
    shapeCast S1x1x16x256 (k0_pay8 (F := Ideal)) shapeCasts_S16x256_S1x1x16x256 x
      = tile T ((Rect.unit (s := S1x8x576x256) ![0, p, r, 0] ![1, 1, 16, 256] inb).emb x) := by
  have e2 : ((Rect.unit (s := S1x8x576x256) ![0, p, r, 0] ![1, 1, 16, 256] inb).emb x 2).val = r + 1 * (x 2).val := rfl
  rw [tile, dif_neg (by rw [e2]; idx_bounds; omega)]
  pointwise [k0_pay8]

set_option maxHeartbeats 4000000 in
/-- The stores at `t` together make the block `tile` of the product. -/
theorem stored (c : Dev nD) (t : Fin cfg0.N) (y : S1x8x576x256.Idx) : outsAt0 m c t y
    = tile (k0_pay7 (F := Ideal) (iblk m c 1 t) (iblk m c 0 t)) y := by
  unfold outsAt0; frame_out
  refine View.canon_apply_of_pieces (Val := Elt Ideal) (e := .bf16) (tile (k0_pay7 (F := Ideal) (iblk m c 1 t) (iblk m c 0 t))) _ ?_ y ?_
  · repeat' (first | refine List.forall_mem_cons.mpr ⟨?_, ?_⟩ | exact fun _ h => absurd h List.not_mem_nil)
    all_goals intro x
    all_goals first
      | (refine tile_ones _ _ _ ?_ ?_ x; decide; norm_num; done)
      | (refine tile_values _ _ _ _ _ ?_ ?_ ?_ ?_ ?_ x; decide; decide; all_goals norm_num; done)
  · exact View.cover_of_tiledBy _ ![1, 1, 16, 256] (by sl_kernel_rfl) y

/-- The place in the result of an entry of the block written at `t`. -/
theorem place (t : Fin cfg0.N) (y) : (((cfg0.win 2).blk t).view.emb y)
    = ix4 ⟨t.val / 4, by idx_bounds; omega⟩ ⟨t.val / 2 % 2 * 8 + (y 1).val, by idx_bounds; omega⟩
        ⟨t.val % 2 * 576 + (y 2).val, by idx_bounds; omega⟩ ⟨(y 3).val, by idx_bounds; omega⟩ := by
  blk_ext [idx t]

/-- The array the weight blocks are taken from is the transpose of the weights given. -/
theorem weights (c : Dev nD) (i : S13392x2048.Idx) : V m c main_v1 i = m ((c : Thread nD τ).loc main_arg1) (ix3 0 (i 1) (i 0)) := by
  entry_read
  pointwise

/-- The rows of the activations the grid point `t` reads. -/
theorem rows (c : Dev nD) (t : Fin cfg0.N) (y : (win0_0.xblock (grid0.coords t)).Idx) : iblk m c 0 t y
    = m ((c : Thread nD τ).loc main_arg0) (ix2 ⟨t.val / 2 * 2048 + (y 0).val, by idx_bounds; omega⟩ (y 1)) := by
  blk_point [iblk, idx t]

/-- The columns of the weights the grid point `t` reads. -/
theorem columns (c : Dev nD) (t : Fin cfg0.N) (y : (win0_1.xblock (grid0.coords t)).Idx) : iblk m c 1 t y
    = m ((c : Thread nD τ).loc main_arg1) (ix3 0 (y 1) ⟨2048 + t.val % 2 * 512 + (y 0).val, by idx_bounds; omega⟩) := by
  refine (weights m c _).trans (congrArg (m ((c : Thread nD τ).loc main_arg1)) (funext (Fin.forall_fin_succ.mpr ⟨rfl, Fin.forall_fin_succ.mpr ⟨?_, Fin.forall_fin_one.mpr ?_⟩⟩)))
  · exact Fin.ext ((emb1 t y 1).trans (by rw [(idx t).2.1]; exact Nat.zero_add _))
  · exact Fin.ext ((emb1 t y 0).trans (by rw [(idx t).2.1]; rfl))

/-- An entry of the product, as a sum. -/
theorem product (w : FVec Ideal S512x2048 .f32) (h : FVec Ideal S2048x2048 .bf16) (a : Fin 512) (b : Fin 2048) :
    k0_pay7 (F := Ideal) w h (ix2 a b) = ∑ x : Fin 2048, (w (ix2 a x) * h (ix2 b x) : EReal) := by
  pointwise [k0_pay7]

section
open Cert.Reference3Ideal.Read

variable (a0 : (⟨S16384x2048, .bf16⟩ : BufTy).Contents (Elt Ideal)) (a1 : (⟨S1x2048x13392, .f32⟩ : BufTy).Contents (Elt Ideal))

/-- The plain program's product read by batch, chunk, position in the chunk, head and lane. -/
theorem heads (b : Fin 4) (n : Fin 16) (k : Fin 256) (h : Fin 8) (d : Fin 128) :
    val_main_v4 (F := Ideal) a0 a1 (ix5 b n k h d) = val_main_v3 (F := Ideal) a0 a1
      (ix2 ⟨b.val * 4096 + n.val * 256 + k.val, by omega⟩ ⟨h.val * 128 + d.val, by omega⟩) := by
  refine shapeCast_apply _ _ _ _ ?_
  rewrite [Shape.rowMajor_val_two, Shape.rowMajor_val_five]
  show (b.val * 4096 + n.val * 256 + k.val) * 1024 + (h.val * 128 + d.val) = (((b.val * 16 + n.val) * 256 + k.val) * 8 + h.val) * 128 + d.val
  omega

/-- The plain program's heads stacked along one axis, 144 rows each. -/
theorem stacked (b : Fin 4) (n : Fin 16) (r : Fin 1152) (k : Fin 256) :
    val_main_v8 (F := Ideal) a0 a1 (ix4 b n r k) = val_main_v7 (F := Ideal) a0 a1
      (ix5 b n ⟨r.val / 144, by omega⟩ ⟨r.val % 144, by omega⟩ k) := by
  refine shapeCast_apply _ _ _ _ ?_
  rewrite [Shape.rowMajor_val_four, Shape.rowMajor_val_five]
  show (((b.val * 16 + n.val) * 8 + r.val / 144) * 144 + r.val % 144) * 256 + k.val = ((b.val * 16 + n.val) * 1152 + r.val) * 256 + k.val
  omega

/-- An entry of the plain program's product, as a sum. -/
theorem dots (a : Fin 16384) (b : Fin 1024) : val_main_v3 (F := Ideal) a0 a1 (ix2 a b)
    = ∑ x : Fin 2048, (a0 (ix2 a x) * a1 (ix3 0 x ⟨2048 + b.val, by omega⟩) : EReal) := by
  pointwise [val_main_v3, val_main_v2, val_main_v1, val_main_v0]

/-- The rows of a head: its value lanes, then ones. -/
theorem parts (b : Fin 4) (n : Fin 16) (h : Fin 8) (r : Fin 144) (k : Fin 256) :
    val_main_v7 (F := Ideal) a0 a1 (ix5 b n h r k) = (if g : r.val < 128 then val_main_v4 (F := Ideal) a0 a1 (ix5 b n k h ⟨r.val, g⟩) else 1 : EReal) := by
  pointwise [val_main_v7, val_main_v6, val_main_cst, val_main_v5]

/-- The narrowing at the end changes no value. -/
theorem narrowed (i : S4x16x1152x256.Idx) : val_main_v9 (F := Ideal) a0 a1 i = val_main_v8 (F := Ideal) a0 a1 i := by
  rw [val_main_v9_apply]
  generalize val_main_v8 (F := Ideal) a0 a1 i = y
  rfl

/-- An entry of the plain program's result: a sum on a value row, 1 on a row of ones. -/
theorem reference (b : Fin 4) (n : Fin 16) (r : Fin 1152) (k : Fin 256) :
    val_main_v9 (F := Ideal) a0 a1 (ix4 b n r k) = (if h : r.val % 144 < 128 then
      ∑ x : Fin 2048, (a0 (ix2 ⟨b.val * 4096 + n.val * 256 + k.val, by omega⟩ x) * a1 (ix3 0 x ⟨2048 + (r.val / 144 * 128 + r.val % 144), by omega⟩)) else 1 : EReal) := by
  refine (narrowed a0 a1 _).trans ((stacked a0 a1 b n r k).trans ((parts a0 a1 b n _ _ k).trans ?_))
  by_cases h : r.val % 144 < 128
  · rw [dif_pos h, dif_pos h, heads, dots]
  · rw [dif_neg h, dif_neg h]
end

/-- An entry of the block written at `t` is the plain program's entry at the same place. -/
theorem point (c : Dev nD) (t : Fin cfg0.N) (y : S1x8x576x256.Idx) : outsAt0 m c t y
    = Cert.Reference3Ideal.Read.val_main_v9 (F := Ideal) (m ((c : Thread nD τ).loc main_arg0)) (m ((c : Thread nD τ).loc main_arg1)) (((cfg0.win 2).blk t).view.emb y) := by
  rw [place]
  refine (stored m c t y).trans (Eq.trans ?_ (reference _ _ _ _ _ _).symm)
  have h2 : (y 2).val < 576 := (y 2).isLt
  rw [tile]
  by_cases h : (y 2).val % 144 < 128
  · rw [dif_pos h, dif_pos (by show (t.val % 2 * 576 + (y 2).val) % 144 < 128; omega), product]
    refine Finset.sum_congr rfl fun x _ => ?_
    rw [rows, columns, mul_comm]
    congr 1
    · congr 1
      congr 1
      refine Fin.ext ?_
      show t.val / 2 * 2048 + ((y 1).val * 256 + (y 3).val) = t.val / 4 * 4096 + (t.val / 2 % 2 * 8 + (y 1).val) * 256 + (y 3).val
      omega
    · congr 1
      congr 1
      refine Fin.ext ?_
      show 2048 + t.val % 2 * 512 + ((y 2).val / 144 * 128 + (y 2).val % 144) = 2048 + ((t.val % 2 * 576 + (y 2).val) / 144 * 128 + (t.val % 2 * 576 + (y 2).val) % 144)
      omega
  · rw [dif_neg h, dif_neg (by show ¬ (t.val % 2 * 576 + (y 2).val) % 144 < 128; omega)]

/-- After the last grid point the result is the plain program's. -/
theorem final (c : Dev nD) : (dats m 0 c).arrAt 2 cfg0.N
    = Cert.Reference3Ideal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.ValueProj
-- ==== Proof.RetProj.lean ====
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetProj

open Cert.Kernel4Ideal Cert.Kernel4Ideal.Gen

variable (m : (ℓ : Loc nD τ sig) → Buf (Elt Ideal) ℓ)

/-- The blocks each window is at, at the grid point `t`. -/
theorem idx : ∀ t : Fin cfg0.N, win0_0.index t = ![t.val / 12, 0] ∧ win0_1.index t = ![7248 + t.val % 12 * 512, 0]
    ∧ win0_2.index t = ![t.val / 12, t.val % 12] :=
  (by decide +kernel : ∀ t : Fin grid0.N, _)

/-- The place in the weights of an entry of the block that window 1 holds: the block starts at the element the index map names. -/
theorem emb1 (t : Fin cfg0.N) (y : (win0_1.xblock (grid0.coords t)).Idx) (a : Fin win0_1.shape.rank) :
    (((win0_1.blk t).view.emb y a : Fin _) : ℕ) = win0_1.index t a + y a :=
  win0_1.rect_emb_val_off t y a

/-- The array the weight blocks are taken from is the transpose of the weights given. -/
theorem weights (c : Dev nD) (i : S13392x2048.Idx) :
    V m c main_v1 i = m ((c : Thread nD τ).loc main_arg1) (ix3 0 (i 1) (i 0)) := by
  entry_read
  pointwise

/-- An entry of the block written at `t` is the plain program's entry at the same place. -/
theorem point (c : Dev nD) (t : Fin cfg0.N) (y) : k0_pay1 (iblk m c 0 t) (iblk m c 1 t) y
    = Cert.Reference4Ideal.Read.val_main_v4 (F := Ideal) (m ((c : Thread nD τ).loc main_arg0)) (m ((c : Thread nD τ).loc main_arg1))
      (((cfg0.win 2).blk t).view.emb y) := by
  pointwise [k0_pay1, Cert.Reference4Ideal.Read.val_main_v4, Cert.Reference4Ideal.Read.val_main_v3, Cert.Reference4Ideal.Read.val_main_v2, Cert.Reference4Ideal.Read.val_main_v1, Cert.Reference4Ideal.Read.val_main_v0]
  blk_point [iblk, idx t]
  · exact (emb1 t (ix2 (y 1) x) 1).trans (by rw [(idx t).2.1]; exact Nat.zero_add _)
  · exact (emb1 t (ix2 (y 1) x) 0).trans (by rw [(idx t).2.1]; exact Nat.add_assoc _ _ _)

/-- After the last grid point the result is the plain program's. -/
theorem final (c : Dev nD) : (dats m 0 c).arrAt 2 cfg0.N
    = Cert.Reference4Ideal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RetProj

end

end
-- ==== Proof.IndexProj.lean ====
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.IndexProj

open Cert.Kernel5Ideal Cert.Kernel5Ideal.Gen

variable (m : (ℓ : Loc nD τ sig) → Buf (Elt Ideal) ℓ)

/-- The blocks each window is at, at the grid point `t`. -/
theorem idx : ∀ t : Fin cfg0.N, win0_0.index t = ![t.val, 0] ∧ win0_1.index t = ![5120, 0]
    ∧ win0_2.index t = ![5184, 0] ∧ win0_3.index t = ![t.val, 0] ∧ win0_4.index t = ![0, t.val] :=
  (by decide +kernel : ∀ t : Fin grid0.N, _)

/-- The place in the weights of an entry of the block that window 1 holds: the block starts at the element the index map names. -/
theorem emb1 (t : Fin cfg0.N) (y : (win0_1.xblock (grid0.coords t)).Idx) (a : Fin win0_1.shape.rank) :
    (((win0_1.blk t).view.emb y a : Fin _) : ℕ) = win0_1.index t a + y a :=
  win0_1.rect_emb_val_off t y a

/-- The place in the weights of an entry of the block that window 2 holds: the block starts at the element the index map names. -/
theorem emb2 (t : Fin cfg0.N) (y : (win0_2.xblock (grid0.coords t)).Idx) (a : Fin win0_2.shape.rank) :
    (((win0_2.blk t).view.emb y a : Fin _) : ℕ) = win0_2.index t a + y a :=
  win0_2.rect_emb_val_off t y a

/-- The place among the keys of an entry of the block written at `t`. -/
theorem keyPlace (t : Fin cfg0.N) (y) : (((cfg0.win 3).blk t).view.emb y)
    = ix2 ⟨t.val * 2048 + (y 0).val, by idx_bounds; omega⟩ (y 1) := by
  blk_ext [idx t]

/-- The place among the head weights of an entry of the block written at `t`. -/
theorem weightPlace (t : Fin cfg0.N) (y) : (((cfg0.win 4).blk t).view.emb y)
    = ix2 (y 0) ⟨t.val * 2048 + (y 1).val, by idx_bounds; omega⟩ := by
  blk_ext [idx t]

/-- The rows of the activations the grid point `t` reads. -/
theorem rows (c : Dev nD) (t : Fin cfg0.N) (y : (win0_0.xblock (grid0.coords t)).Idx) : iblk m c 0 t y
    = m ((c : Thread nD τ).loc main_arg0) (ix2 ⟨t.val * 2048 + (y 0).val, by idx_bounds; omega⟩ (y 1)) := by
  blk_point [iblk, idx t]

/-- The array the weight blocks are taken from is the transpose of the weights given. -/
theorem weights (c : Dev nD) (i : S13392x2048.Idx) : V m c main_v1 i = m ((c : Thread nD τ).loc main_arg1) (ix3 0 (i 1) (i 0)) := by
  entry_read
  pointwise

/-- The 64 columns of the weights that make the keys. -/
theorem keyColumns (c : Dev nD) (t : Fin cfg0.N) (y : (win0_1.xblock (grid0.coords t)).Idx) : iblk m c 1 t y
    = m ((c : Thread nD τ).loc main_arg1) (ix3 0 (y 1) ⟨5120 + (y 0).val, by idx_bounds; omega⟩) := by
  refine (weights m c _).trans (congrArg (m ((c : Thread nD τ).loc main_arg1)) (funext (Fin.forall_fin_succ.mpr ⟨rfl, Fin.forall_fin_succ.mpr ⟨?_, Fin.forall_fin_one.mpr ?_⟩⟩)))
  · exact Fin.ext ((emb1 t y 1).trans (by rw [(idx t).2.1]; exact Nat.zero_add _))
  · exact Fin.ext ((emb1 t y 0).trans (by rw [(idx t).2.1]; rfl))

/-- The columns of the weights that make the head weights. -/
theorem weightColumns (c : Dev nD) (t : Fin cfg0.N) (y : (win0_2.xblock (grid0.coords t)).Idx) : iblk m c 2 t y
    = m ((c : Thread nD τ).loc main_arg1) (ix3 0 (y 1) ⟨5184 + (y 0).val, by idx_bounds; omega⟩) := by
  refine (weights m c _).trans (congrArg (m ((c : Thread nD τ).loc main_arg1)) (funext (Fin.forall_fin_succ.mpr ⟨rfl, Fin.forall_fin_succ.mpr ⟨?_, Fin.forall_fin_one.mpr ?_⟩⟩)))
  · exact Fin.ext ((emb2 t y 1).trans (by rw [(idx t).2.2.1]; exact Nat.zero_add _))
  · exact Fin.ext ((emb2 t y 0).trans (by rw [(idx t).2.2.1]; rfl))

/-- The constant 128. -/
theorem ofBits_128 : Ideal.ofBits .f32 1124073472#32 = ((128 : ℝ) : EReal) := by
  simp [Ideal.ofBits, Ideal.ieee, -EReal.coe_mul]; norm_num

/-- The constant 64. -/
theorem ofBits_64 : Ideal.ofBits .f32 1115684864#32 = ((64 : ℝ) : EReal) := by
  simp [Ideal.ofBits, Ideal.ieee, -EReal.coe_mul]; norm_num

/-- The mean over 128 lanes of which each value stands twice is the mean over 64 lanes, at the infinities also. -/
theorem halves (s : EReal) : Ideal.div (s + s) (Ideal.ofBits .f32 1124073472#32) = Ideal.div s (Ideal.ofBits .f32 1115684864#32) := by
  rw [ofBits_128, ofBits_64, Ideal.div, Ideal.div, if_neg (by norm_num), if_neg (by norm_num), ← EReal.coe_inv, ← EReal.coe_inv]
  induction s with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe r => rw [← EReal.coe_add, ← EReal.coe_mul, ← EReal.coe_mul]; congr 1; ring

open Cert.Reference5Ideal.Read in
/-- An entry of the keys written at `t` is the plain program's, in either half of the lanes. -/
theorem keyPoint (c : Dev nD) (t : Fin cfg0.N) (y) : k0_pay1 (iblk m c 0 t) (iblk m c 1 t) y
    = val_main_v26 (F := Ideal) (m ((c : Thread nD τ).loc main_arg0)) (m ((c : Thread nD τ).loc main_arg1)) (((cfg0.win 3).blk t).view.emb y) := by
  rw [keyPlace]
  pointwise [k0_pay1, val_main_v27, val_main_v26, val_main_v25, val_main_v24, val_main_v23, val_main_cst_4, val_main_v22, val_main_v21, val_main_v20, val_main_v19, val_main_v18, val_main_cst_3, val_main_v17, val_main_v16, val_main_v15, val_main_v14, val_main_cst_2, val_main_v13, val_main_v12, val_main_cst_1, val_main_v11, val_main_v10, val_main_v9, val_main_v8, val_main_v7, val_main_cst_0, val_main_v6, val_main_v5, val_main_cst, val_main_v4, val_main_v3, val_main_v2, val_main_v1, val_main_v0]
  simp only [halves, rows, keyColumns]
  by_cases h : (y 1).val < 64
  · simp only [h, ↓reduceDIte]
    rfl
  · simp only [h, ↓reduceDIte]
    rfl

open Cert.Reference5Ideal.Read in
/-- An entry of the head weights written at `t` is the plain program's. -/
theorem weightPoint (c : Dev nD) (t : Fin cfg0.N) (y) : k0_pay2 (iblk m c 0 t) (iblk m c 2 t) y
    = val_main_v27 (F := Ideal) (m ((c : Thread nD τ).loc main_arg0)) (m ((c : Thread nD τ).loc main_arg1)) (((cfg0.win 4).blk t).view.emb y) := by
  rw [weightPlace]
  pointwise [k0_pay2, val_main_v27, val_main_v26, val_main_v25, val_main_v24, val_main_v23, val_main_cst_4, val_main_v22, val_main_v21, val_main_v20, val_main_v19, val_main_v18, val_main_cst_3, val_main_v17, val_main_v16, val_main_v15, val_main_v14, val_main_cst_2, val_main_v13, val_main_v12, val_main_cst_1, val_main_v11, val_main_v10, val_main_v9, val_main_v8, val_main_v7, val_main_cst_0, val_main_v6, val_main_v5, val_main_cst, val_main_v4, val_main_v3, val_main_v2, val_main_v1, val_main_v0]
  simp only [rows, weightColumns]
  refine congrArg (· * _) (Finset.sum_congr rfl fun x _ => mul_comm _ _)

/-- After the last grid point the keys are the plain program's. -/
theorem keyFinal (c : Dev nD) : (dats m 0 c).arrAt 3 cfg0.N
    = Cert.Reference5Ideal.Read.val_main_v26 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact keyPoint m c t y

/-- After the last grid point the head weights are the plain program's. -/
theorem weightFinal (c : Dev nD) : (dats m 0 c).arrAt 4 cfg0.N
    = Cert.Reference5Ideal.Read.val_main_v27 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  exact weightPoint m c t y

end Cert.IndexProj

end

end
-- ==== Proof.Output.lean ====
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Output

open Cert.Kernel6Ideal Cert.Kernel6Ideal.Gen

variable (m : (ℓ : Loc nD τ sig) → Buf (Elt Ideal) ℓ)

/-- The blocks each window is at, at the grid point `t`. -/
theorem idx : ∀ t : Fin cfg0.N, (win0_0.index t = ![t.val, 0] ∧ win0_1.index t = ![t.val, 0]
    ∧ win0_2.index t = ![t.val, 1] ∧ win0_3.index t = ![t.val, 2] ∧ win0_4.index t = ![t.val, 0] ∧ win0_5.index t = ![t.val, 0])
    ∧ (win0_6.index t = ![0, 0] ∧ win0_7.index t = ![0, 0] ∧ win0_8.index t = ![0, 0] ∧ win0_9.index t = ![0, 0]
    ∧ win0_10.index t = ![0, 0] ∧ win0_11.index t = ![0, 0]) ∧ win0_12.index t = ![t.val, 0] :=
  (by decide +kernel : ∀ t : Fin grid0.N, _)

/-- The place in the result of an entry of the block written at `t`. -/
theorem place (t : Fin cfg0.N) (y) : (((cfg0.win 12).blk t).view.emb y)
    = ix2 ⟨t.val * 256 + (y 0).val, by idx_bounds; omega⟩ (y 1) := by
  blk_ext [idx t]

/-- The rows of the first argument the grid point `t` reads. -/
theorem read0 (c : Dev nD) (t : Fin cfg0.N) (y : (win0_0.xblock (grid0.coords t)).Idx) : iblk m c 0 t y
    = m ((c : Thread nD τ).loc main_arg0) (ix2 ⟨t.val * 256 + (y 0).val, by idx_bounds; omega⟩ (y 1)) := by
  blk_point [iblk, idx t]

/-- The rows of the second argument the grid point `t` reads. -/
theorem read1 (c : Dev nD) (t : Fin cfg0.N) (y : (win0_1.xblock (grid0.coords t)).Idx) : iblk m c 1 t y
    = m ((c : Thread nD τ).loc main_arg1) (ix2 ⟨t.val * 256 + (y 0).val, by idx_bounds; omega⟩ (y 1)) := by
  blk_point [iblk, idx t]

/-- The rows of the columns from 2048 of the third argument the grid point `t` reads. -/
theorem read2 (c : Dev nD) (t : Fin cfg0.N) (y : (win0_2.xblock (grid0.coords t)).Idx) : iblk m c 2 t y
    = m ((c : Thread nD τ).loc main_arg2) (ix2 ⟨t.val * 256 + (y 0).val, by idx_bounds; omega⟩ ⟨2048 + (y 1).val, by idx_bounds; omega⟩) := by
  blk_point [iblk, idx t]

/-- The rows of the columns from 4096 of the third argument the grid point `t` reads. -/
theorem read3 (c : Dev nD) (t : Fin cfg0.N) (y : (win0_3.xblock (grid0.coords t)).Idx) : iblk m c 3 t y
    = m ((c : Thread nD τ).loc main_arg2) (ix2 ⟨t.val * 256 + (y 0).val, by idx_bounds; omega⟩ ⟨4096 + (y 1).val, by idx_bounds; omega⟩) := by
  blk_point [iblk, idx t]

/-- The rows of the fourth argument the grid point `t` reads, the batch and the position put in one axis. -/
theorem read4 (c : Dev nD) (t : Fin cfg0.N) (y : (win0_4.xblock (grid0.coords t)).Idx) : iblk m c 4 t y
    = m ((c : Thread nD τ).loc main_arg3) (ix3 ⟨(t.val * 256 + (y 0).val) / 4096, by idx_bounds; omega⟩
      ⟨(t.val * 256 + (y 0).val) % 4096, by omega⟩ (y 1)) := by
  blk_point [iblk, idx t]

/-- The rows of the fifth argument the grid point `t` reads, the batch and the position put in one axis. -/
theorem read5 (c : Dev nD) (t : Fin cfg0.N) (y : (win0_5.xblock (grid0.coords t)).Idx) : iblk m c 5 t y
    = m ((c : Thread nD τ).loc main_arg4) (ix4 0 ⟨(t.val * 256 + (y 0).val) / 4096, by idx_bounds; omega⟩
      ⟨(t.val * 256 + (y 0).val) % 4096, by omega⟩ (y 1)) := by
  blk_point [iblk, idx t]

/-- The sixth argument, which every grid point reads whole. -/
theorem read6 (c : Dev nD) (t : Fin cfg0.N) (y : (win0_6.xblock (grid0.coords t)).Idx) : iblk m c 6 t y
    = m ((c : Thread nD τ).loc main_arg5) (ix3 0 (y 0) (y 1)) := by
  blk_point [iblk, idx t]

/-- The seventh argument, which every grid point reads whole. -/
theorem read7 (c : Dev nD) (t : Fin cfg0.N) (y : (win0_7.xblock (grid0.coords t)).Idx) : iblk m c 7 t y
    = m ((c : Thread nD τ).loc main_arg6) (ix3 0 (y 0) (y 1)) := by
  blk_point [iblk, idx t]

/-- The eighth argument, which every grid point reads whole. -/
theorem read8 (c : Dev nD) (t : Fin cfg0.N) (y : (win0_8.xblock (grid0.coords t)).Idx) : iblk m c 8 t y
    = m ((c : Thread nD τ).loc main_arg7) (ix3 0 (y 0) (y 1)) := by
  blk_point [iblk, idx t]

/-- The ninth argument, which every grid point reads whole. -/
theorem read9 (c : Dev nD) (t : Fin cfg0.N) (y : (win0_9.xblock (grid0.coords t)).Idx) : iblk m c 9 t y
    = m ((c : Thread nD τ).loc main_arg8) (ix3 0 (y 0) (y 1)) := by
  blk_point [iblk, idx t]

/-- The tenth argument, which every grid point reads whole. -/
theorem read10 (c : Dev nD) (t : Fin cfg0.N) (y : (win0_10.xblock (grid0.coords t)).Idx) : iblk m c 10 t y
    = m ((c : Thread nD τ).loc main_arg9) (ix3 0 (y 0) (y 1)) := by
  blk_point [iblk, idx t]

/-- The eleventh argument, which every grid point reads whole. -/
theorem read11 (c : Dev nD) (t : Fin cfg0.N) (y : (win0_11.xblock (grid0.coords t)).Idx) : iblk m c 11 t y
    = m ((c : Thread nD τ).loc main_arg10) (ix1 (y 1)) := by
  blk_point [iblk, idx t]

open Cert.Reference6Ideal.Read in
set_option maxHeartbeats 1600000 in
/-- An entry of the block written at `t` is the plain program's entry at the same place. -/
theorem point (c : Dev nD) (t : Fin cfg0.N) (y) :
    k0_pay1 (k0_pay2 (iblk m c 0 t) (iblk m c 6 t) (iblk m c 1 t) (iblk m c 7 t) (iblk m c 2 t) (iblk m c 3 t) (iblk m c 4 t) (iblk m c 8 t))
      (k0_pay3 (iblk m c 5 t) (iblk m c 9 t))
      (k0_pay4 (iblk m c 0 t) (iblk m c 6 t) (iblk m c 1 t) (iblk m c 7 t) (iblk m c 2 t) (iblk m c 3 t) (iblk m c 4 t) (iblk m c 8 t))
      (k0_pay5 (iblk m c 10 t)) (iblk m c 11 t) y
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb y) := by
  rw [place]
  pointwise [k0_pay1, k0_pay2, k0_pay3, k0_pay4, k0_pay5, val_main_v55, val_main_v54, val_main_v53, val_main_v52, val_main_v51, val_main_v50, val_main_v49, val_main_v48, val_main_cst_7, val_main_v47, val_main_v46, val_main_cst_6, val_main_v45, val_main_v44, val_main_cst_5, val_main_v43, val_main_v42, val_main_v41, val_main_v40, val_main_v39, val_main_cst_4, val_main_v38, val_main_v37, val_main_cst_3, val_main_v36, val_main_v35, val_main_v34, val_main_v33, val_main_v32, val_main_v31, val_main_v30, val_main_v29, val_main_v28, val_main_v27, val_main_v26, val_main_v25, val_main_v24, val_main_v23, val_main_v22, val_main_v21, val_main_cst_2, val_main_v20, val_main_v19, val_main_cst_1, val_main_v18, val_main_v17, val_main_v16, val_main_v15, val_main_v14, val_main_v13, val_main_v12, val_main_v11, val_main_cst_0, val_main_v10, val_main_v9, val_main_cst, val_main_v8, val_main_v7, val_main_v6, val_main_v5, val_main_v4, val_main_v3, val_main_v2, val_main_v1, val_main_v0]
  simp only [read0, read1, read2, read3, read4, read5, read6, read7, read8, read9, read10, read11]
  rfl

/-- After the last grid point the result is the plain program's. -/
theorem final (c : Dev nD) : (dats m 0 c).arrAt 12 cfg0.N
    = Cert.Reference6Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; frame_out
  exact point m c t y

end Cert.Output

end

end
-- ==== Proof.Norm.lean ====
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm

open Cert.Kernel7Ideal Cert.Kernel7Ideal.Gen

variable (m : (ℓ : Loc nD τ sig) → Buf (Elt Ideal) ℓ)

/-- The blocks each window is at, at the grid point `t`. -/
theorem idx : ∀ t : Fin cfg0.N, win0_0.index t = ![t.val, 0] ∧ win0_1.index t = ![0, 0]
    ∧ win0_2.index t = ![t.val, 0] :=
  (by decide +kernel : ∀ t : Fin grid0.N, _)

/-- The place in the result of an entry of the block written at `t`. -/
theorem place (t : Fin cfg0.N) (y) : (((cfg0.win 2).blk t).view.emb y)
    = ix2 ⟨t.val * 512 + (y 0).val, by idx_bounds; omega⟩ (y 1) := by
  blk_ext [idx t]

/-- The gain, as every grid point reads it. -/
theorem weight (c : Dev nD) (t : Fin cfg0.N) (y : (win0_1.xblock (grid0.coords t)).Idx) : iblk m c 1 t y
    = m ((c : Thread nD τ).loc main_arg1) (ix2 0 (y 1)) := by
  blk_point [iblk, idx t]

/-- The input rows the grid point `t` reads: 512 rows, the batch and the position put in one axis. -/
theorem rows (c : Dev nD) (t : Fin cfg0.N) (y : (win0_0.xblock (grid0.coords t)).Idx) : iblk m c 0 t y
    = m ((c : Thread nD τ).loc main_arg0) (ix3 ⟨(t.val * 512 + (y 0).val) / 4096, by idx_bounds; omega⟩
      ⟨(t.val * 512 + (y 0).val) % 4096, by omega⟩ (y 1)) := by
  blk_point [iblk, idx t]

open Cert.Reference7Ideal.Read in
/-- An entry of the block written at `t` is the plain program's entry at the same place. -/
theorem point (c : Dev nD) (t : Fin cfg0.N) (y) : k0_pay1 (iblk m c 0 t) (iblk m c 1 t) y
    = val_main_v15 (F := Ideal) (m ((c : Thread nD τ).loc main_arg0)) (m ((c : Thread nD τ).loc main_arg1)) (((cfg0.win 2).blk t).view.emb y) := by
  rw [place]
  pointwise [k0_pay1, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  simp only [rows, weight]
  rfl

/-- After the last grid point the result is the plain program's. -/
theorem final (c : Dev nD) : (dats m 0 c).arrAt 2 cfg0.N
    = Cert.Reference7Ideal.Read.val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Norm

end

end
-- ==== Proof.RetFrame.lean ====
module

public import proofs.«01_k».proof.Proof.Gen.Kernel8Ideal.Frame.Runs
public import proofs.«01_k».proof.Proof.Gen.Kernel8Ideal.Loops
public import Idealize.ShloMosaic.Lib.VecWindow
public import Idealize.ShloMosaic.Lib.Quiescent
public import Idealize.ShloMosaic.Lib.Claim

@[expose] public section

set_option maxRecDepth 16384

noncomputable section

namespace Cert.Retention

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Body

variable (c : Dev nD) (i : grid0.Coords)
  (arg2 : Memref sig .tc .smem S8 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .bf16) (harg6 : arg6.IsWhole)
  (arg7 : Memref sig .tc .vmem S1x1024 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S1x512x1024 .bf16) (harg11 : arg11.IsWhole)
  (arg12 : Memref sig .tc .vmem S8x128x128 .f32) (harg12 : arg12.IsWhole)
  (x0 : Vec F S8 .f32) (x1 x2 x3 x4 : Vec F S1x512x1024 .bf16) (x5 : Vec F S1x1024 .f32) (x6 : Vec F S8x64x64 .f32) (x7 x8 : Vec F S8x64x128 .f32)

/-- What the first `k` trips store, last first: into the result's buffer and into the state's, when the state is `S` on entry. -/
def pieces (S : Vec F S8x128x128 .f32) (k : ℕ) : List (View.Piece (Elt F) S1x512x1024 .bf16) × List (View.Piece (Elt F) S8x128x128 .f32) :=
  pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) arg11.view.junk (harg12.unread S) k

/-- The result's buffer after the body, when the state is `S` on entry. -/
def out (S : Vec F S8x128x128 .f32) : Vec F S1x512x1024 .bf16 :=
  arg11.view.read (Elt F) (arg11.view.writes (Elt F) arg11.view.junk (pieces c i arg2 harg2 arg3 harg3 arg4 harg4 arg5 harg5 arg6 harg6 arg7 harg7 arg8 harg8 arg9 harg9 arg10 harg10 arg11 harg11 arg12 harg12 x0 x1 x2 x3 x4 x5 x6 x7 x8 S 2).1)

/-- The state after the body, when it is `S` on entry. -/
def carry (S : Vec F S8x128x128 .f32) : Vec F S8x128x128 .f32 :=
  arg12.view.read (Elt F) (arg12.view.writes (Elt F) (harg12.unread S) (pieces c i arg2 harg2 arg3 harg3 arg4 harg4 arg5 harg5 arg6 harg6 arg7 harg7 arg8 harg8 arg9 harg9 arg10 harg10 arg11 harg11 arg12 harg12 x0 x1 x2 x3 x4 x5 x6 x7 x8 S 2).2)

variable (S : Vec F S8x128x128 .f32) (f : BufTy.Contents (Elt F) arg11.view.ty)

/-- What a trip stores does not depend on what the result's buffer held. -/
theorem trip_free (k : Fin k0_t1_loop.trips) (f f' : BufTy.Contents (Elt F) arg11.view.ty) (g : BufTy.Contents (Elt F) arg12.view.ty) :
    tripL_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) k f g
      = tripL_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) k f' g := by
  unfold tripL_k0_t1 trip_k0_t1; rfl

/-- Nor does what all the trips together store. -/
theorem pieces_free (k : ℕ) : pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) f (harg12.unread S) k
    = pieces c i arg2 harg2 arg3 harg3 arg4 harg4 arg5 harg5 arg6 harg6 arg7 harg7 arg8 harg8 arg9 harg9 arg10 harg10 arg11 harg11 arg12 harg12 x0 x1 x2 x3 x4 x5 x6 x7 x8 S k := by
  unfold pieces
  induction k with
  | zero => rfl
  | succ k ih =>
    rw [pb_k0_t1.eq_2, pb_k0_t1.eq_2, ih]; unfold pb_k0_t1Step
    split
    · rw [trip_free c i arg2 harg2 arg3 harg3 arg4 harg4 arg5 harg5 arg6 harg6 arg7 harg7 arg8 harg8 arg9 harg9 arg10 harg10 arg11 harg11 arg12 harg12 x0 x1 x2 x3 x4 x5 x6 x7 x8 _ (arg11.view.writes (Elt F) f _) (arg11.view.writes (Elt F) arg11.view.junk _) _]
    · rfl

/-- The stores of all the trips cover the result's buffer. -/
theorem cover (y : S1x512x1024.Idx) : ∃ pc ∈ (pieces c i arg2 harg2 arg3 harg3 arg4 harg4 arg5 harg5 arg6 harg6 arg7 harg7 arg8 harg8 arg9 harg9 arg10 harg10 arg11 harg11 arg12 harg12 x0 x1 x2 x3 x4 x5 x6 x7 x8 S 2).1, y ∈ pc.1.set :=
  View.cover_of_tiledL (pieces c i arg2 harg2 arg3 harg3 arg4 harg4 arg5 harg5 arg6 harg6 arg7 harg7 arg8 harg8 arg9 harg9 arg10 harg10 arg11 harg11 arg12 harg12 x0 x1 x2 x3 x4 x5 x6 x7 x8 S 2).1 S1x64x128.size (by sl_kernel_rfl) y

/-- The result's buffer after the stores of all the trips reads as `out`, whatever it held before. -/
theorem read_out : arg11.view.read (Elt F) (arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) f (harg12.unread S) (Scf.trips k0_t1_loop.lb k0_t1_loop.ub k0_t1_loop.st)).1)
    = out c i arg2 harg2 arg3 harg3 arg4 harg4 arg5 harg5 arg6 harg6 arg7 harg7 arg8 harg8 arg9 harg9 arg10 harg10 arg11 harg11 arg12 harg12 x0 x1 x2 x3 x4 x5 x6 x7 x8 S := by
  rw [pieces_free c i arg2 harg2 arg3 harg3 arg4 harg4 arg5 harg5 arg6 harg6 arg7 harg7 arg8 harg8 arg9 harg9 arg10 harg10 arg11 harg11 arg12 harg12 x0 x1 x2 x3 x4 x5 x6 x7 x8 S f]
  exact View.read_writes_of_cover _ _ _ _ _ (cover c i arg2 harg2 arg3 harg3 arg4 harg4 arg5 harg5 arg6 harg6 arg7 harg7 arg8 harg8 arg9 harg9 arg10 harg10 arg11 harg11 arg12 harg12 x0 x1 x2 x3 x4 x5 x6 x7 x8 S)

/-- The state's buffer after the stores of all the trips reads as `carry`. -/
theorem read_carry : arg12.view.read (Elt F) (arg12.view.writes (Elt F) (harg12.unread S) (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) f (harg12.unread S) (Scf.trips k0_t1_loop.lb k0_t1_loop.ub k0_t1_loop.st)).2)
    = carry c i arg2 harg2 arg3 harg3 arg4 harg4 arg5 harg5 arg6 harg6 arg7 harg7 arg8 harg8 arg9 harg9 arg10 harg10 arg11 harg11 arg12 harg12 x0 x1 x2 x3 x4 x5 x6 x7 x8 S := by
  rw [pieces_free c i arg2 harg2 arg3 harg3 arg4 harg4 arg5 harg5 arg6 harg6 arg7 harg7 arg8 harg8 arg9 harg9 arg10 harg10 arg11 harg11 arg12 harg12 x0 x1 x2 x3 x4 x5 x6 x7 x8 S f]; rfl

set_option maxHeartbeats 8000000 in
/-- The body where the state is carried on from the row block before.-/
theorem bodyNext (hc0 : ¬ cond0_0 i)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out c i arg2 harg2 arg3 harg3 arg4 harg4 arg5 harg5 arg6 harg6 arg7 harg7 arg8 harg8 arg9 harg9 arg10 harg10 arg11 harg11 arg12 harg12 x0 x1 x2 x3 x4 x5 x6 x7 x8 S)
            ∗ owns (c : Thread nD τ) arg12 fullShare (carry c i arg2 harg2 arg3 harg3 arg4 harg4 arg5 harg5 arg6 harg6 arg7 harg7 arg8 harg8 arg9 harg9 arg10 harg10 arg11 harg11 arg12 harg12 x0 x1 x2 x3 x4 x5 x6 x7 x8 S)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg12.eq_unread hs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro; exact read_out c i arg2 harg2 arg3 harg3 arg4 harg4 arg5 harg5 arg6 harg6 arg7 harg7 arg8 harg8 arg9 harg9 arg10 harg10 arg11 harg11 arg12 harg12 x0 x1 x2 x3 x4 x5 x6 x7 x8 S f9
  iexists _; isplitr
  swap; · iexact HS0
  ipureintro; exact read_carry c i arg2 harg2 arg3 harg3 arg4 harg4 arg5 harg5 arg6 harg6 arg7 harg7 arg8 harg8 arg9 harg9 arg10 harg10 arg11 harg11 arg12 harg12 x0 x1 x2 x3 x4 x5 x6 x7 x8 S f9

set_option maxHeartbeats 8000000 in
/-- The body at the first row block of a batch entry, which clears the state first.-/
theorem bodyFirst (hc0 : cond0_0 i)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out c i arg2 harg2 arg3 harg3 arg4 harg4 arg5 harg5 arg6 harg6 arg7 harg7 arg8 harg8 arg9 harg9 arg10 harg10 arg11 harg11 arg12 harg12 x0 x1 x2 x3 x4 x5 x6 x7 x8 k0_pay1)
            ∗ owns (c : Thread nD τ) arg12 fullShare (carry c i arg2 harg2 arg3 harg3 arg4 harg4 arg5 harg5 arg6 harg6 arg7 harg7 arg8 harg8 arg9 harg9 arg10 harg10 arg11 harg11 arg12 harg12 x0 x1 x2 x3 x4 x5 x6 x7 x8 k0_pay1)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  sl_exec (disch := first | sl_exact hc0)
  sl_step
  iapply Hk
  have zero : arg12.view.writes (Elt F) arg12.view.junk bodyFirst.sl.HS0_1 = harg12.unread k0_pay1 :=
    harg12.eq_unread (View.read_writes_full _ _ _ _ _)
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro; rw [zero]; exact read_out c i arg2 harg2 arg3 harg3 arg4 harg4 arg5 harg5 arg6 harg6 arg7 harg7 arg8 harg8 arg9 harg9 arg10 harg10 arg11 harg11 arg12 harg12 x0 x1 x2 x3 x4 x5 x6 x7 x8 k0_pay1 f9
  iexists _; isplitr
  swap; · iexact HS0
  ipureintro; rw [View.writes_append, zero]; exact read_carry c i arg2 harg2 arg3 harg3 arg4 harg4 arg5 harg5 arg6 harg6 arg7 harg7 arg8 harg8 arg9 harg9 arg10 harg10 arg11 harg11 arg12 harg12 x0 x1 x2 x3 x4 x5 x6 x7 x8 k0_pay1 f9

end Body

variable (m : (ℓ : Loc nD τ sig) → Buf (Elt F) ℓ) (ρ : Dev nD → PrngReg)

/-- The block of the result that the grid point `t` writes, when the state is `S` on entry. -/
def outAt (c : Dev nD) (t : Fin cfg0.N) (S : Vec F S8x128x128 .f32) : Vec F S1x512x1024 .bf16 :=
  out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) S

/-- The state the grid point `t` leaves, when it is `S` on entry. -/
def carryAt (c : Dev nD) (t : Fin cfg0.N) (S : Vec F S8x128x128 .f32) : Vec F S8x128x128 .f32 :=
  carry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) S

/-- The state the grid point `n` works from: zero at the first row block of a batch entry, and otherwise what the point before left. -/
def start (c : Dev nD) : ℕ → Vec F S8x128x128 .f32
  | 0 => k0_pay1
  | n + 1 => if (n + 1) % 8 = 0 then k0_pay1 else if h : n < cfg0.N then carryAt m c ⟨n, h⟩ (start c n) else k0_pay1

/-- A batch entry starts from the zero state. -/
theorem start_first (c : Dev nD) (n : ℕ) (h : n % 8 = 0) : start m c n = k0_pay1 := by
  cases n with
  | zero => rfl
  | succ n => exact if_pos h

/-- Elsewhere a point starts from what the point before left. -/
theorem start_next (c : Dev nD) (n : ℕ) (h : ¬ (n + 1) % 8 = 0) (hn : n < cfg0.N) : start m c (n + 1) = carryAt m c ⟨n, hn⟩ (start m c n) :=
  (if_neg h).trans (dif_pos hn)

/-- What is kept between the grid points: after the point before `n`, the state is what that point left. -/
def Kept (c : Dev nD) : (n : ℕ) → n ≤ cfg0.N → sProp 𝕄
  | 0, _ => Pipeline.ΦA spec0 c
  | n + 1, hn => iprop(owns (c : Thread nD τ) scM0_0 fullShare (carryAt m c ⟨n, hn⟩ (start m c n)) ∗ (∃ r, prngReg c r))

/-- Whatever point comes next, the state's buffer is held at some contents. -/
theorem kept_some (c : Dev nD) (n : ℕ) (hn : n ≤ cfg0.N) :
    Kept m c n hn ⊢ iprop((∃ d, owns (c : Thread nD τ) scM0_0 fullShare d) ∗ (∃ r, prngReg c r)) := by
  cases n with
  | zero => exact (PhiA0_eq c).le
  | succ n =>
    unfold Kept
    iintro ⟨HS, Hg⟩
    isplitl [HS]; · iexists _; iexact HS
    iexact Hg

/-- Inside a batch entry the state's buffer holds what the next point starts from. -/
theorem kept_start (c : Dev nD) (n : ℕ) (hn : n < cfg0.N) (h : ¬ n % 8 = 0) :
    Kept m c n hn.le ⊢ iprop(owns (c : Thread nD τ) scM0_0 fullShare (start m c n) ∗ (∃ r, prngReg c r)) := by
  cases n with
  | zero => exact absurd rfl h
  | succ n => rw [start_next m c n h (by omega)]; exact Idealize.SL.BI.Entails.refl _

/-- The data of the pipeline: each input's buffer holds its block, the result's buffer what the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t (start m c t.val)
  Φ t := Kept m c t.val (Nat.le_of_lt_succ t.isLt)
  q w := Pipeline.shareOf spec0 w
  owed _ := 0

/-- The pipeline finds its arrays as the host code left them. -/
theorem A_eq (c : Dev nD) (w : Fin cfg0.W) : (dats m 0 c).A w = V m c (Pipeline.arrRef spec0 w) := by dsimp only [dats]

/-- The body leaves input 0's buffer at its block. -/
theorem after_0 (c : Dev nD) (t : Fin cfg0.N) : (dats m 0 c).after 0 t = iblk m c 0 t := by dsimp only [dats]
/-- The body leaves input 1's buffer at its block. -/
theorem after_1 (c : Dev nD) (t : Fin cfg0.N) : (dats m 0 c).after 1 t = iblk m c 1 t := by dsimp only [dats]
/-- The body leaves input 2's buffer at its block. -/
theorem after_2 (c : Dev nD) (t : Fin cfg0.N) : (dats m 0 c).after 2 t = iblk m c 2 t := by dsimp only [dats]
/-- The body leaves input 3's buffer at its block. -/
theorem after_3 (c : Dev nD) (t : Fin cfg0.N) : (dats m 0 c).after 3 t = iblk m c 3 t := by dsimp only [dats]
/-- The body leaves input 4's buffer at its block. -/
theorem after_4 (c : Dev nD) (t : Fin cfg0.N) : (dats m 0 c).after 4 t = iblk m c 4 t := by dsimp only [dats]
/-- The body leaves input 5's buffer at its block. -/
theorem after_5 (c : Dev nD) (t : Fin cfg0.N) : (dats m 0 c).after 5 t = iblk m c 5 t := by dsimp only [dats]
/-- The body leaves input 6's buffer at its block. -/
theorem after_6 (c : Dev nD) (t : Fin cfg0.N) : (dats m 0 c).after 6 t = iblk m c 6 t := by dsimp only [dats]
/-- The body leaves input 7's buffer at its block. -/
theorem after_7 (c : Dev nD) (t : Fin cfg0.N) : (dats m 0 c).after 7 t = iblk m c 7 t := by dsimp only [dats]
/-- The body leaves input 8's buffer at its block. -/
theorem after_8 (c : Dev nD) (t : Fin cfg0.N) : (dats m 0 c).after 8 t = iblk m c 8 t := by dsimp only [dats]
/-- The body leaves the result's buffer at what the point writes. -/
theorem after_9 (c : Dev nD) (t : Fin cfg0.N) : (dats m 0 c).after 9 t = outAt m c t (start m c t.val) := by dsimp only [dats]

/-- The body finds input 0's buffer at its block. -/
theorem before_0 (c : Dev nD) (t : Fin cfg0.N) (d) : (dats m 0 c).before 0 t d = iblk m c 0 t :=
  before0_0_of m (dats m 0 c) (A_eq m c 0) (after_0 m c) t d
/-- The body finds input 1's buffer at its block. -/
theorem before_1 (c : Dev nD) (t : Fin cfg0.N) (d) : (dats m 0 c).before 1 t d = iblk m c 1 t :=
  before0_1_of m (dats m 0 c) (A_eq m c 1) (after_1 m c) t d
/-- The body finds input 2's buffer at its block. -/
theorem before_2 (c : Dev nD) (t : Fin cfg0.N) (d) : (dats m 0 c).before 2 t d = iblk m c 2 t :=
  before0_2_of m (dats m 0 c) (A_eq m c 2) (after_2 m c) t d
/-- The body finds input 3's buffer at its block. -/
theorem before_3 (c : Dev nD) (t : Fin cfg0.N) (d) : (dats m 0 c).before 3 t d = iblk m c 3 t :=
  before0_3_of m (dats m 0 c) (A_eq m c 3) (after_3 m c) t d
/-- The body finds input 4's buffer at its block. -/
theorem before_4 (c : Dev nD) (t : Fin cfg0.N) (d) : (dats m 0 c).before 4 t d = iblk m c 4 t :=
  before0_4_of m (dats m 0 c) (A_eq m c 4) (after_4 m c) t d
/-- The body finds input 5's buffer at its block. -/
theorem before_5 (c : Dev nD) (t : Fin cfg0.N) (d) : (dats m 0 c).before 5 t d = iblk m c 5 t :=
  before0_5_of m (dats m 0 c) (A_eq m c 5) (after_5 m c) t d
/-- The body finds input 6's buffer at its block. -/
theorem before_6 (c : Dev nD) (t : Fin cfg0.N) (d) : (dats m 0 c).before 6 t d = iblk m c 6 t :=
  before0_6_of m (dats m 0 c) (A_eq m c 6) (after_6 m c) t d
/-- The body finds input 7's buffer at its block. -/
theorem before_7 (c : Dev nD) (t : Fin cfg0.N) (d) : (dats m 0 c).before 7 t d = iblk m c 7 t :=
  before0_7_of m (dats m 0 c) (A_eq m c 7) (after_7 m c) t d
/-- The body finds input 8's buffer at its block. -/
theorem before_8 (c : Dev nD) (t : Fin cfg0.N) (d) : (dats m 0 c).before 8 t d = iblk m c 8 t :=
  before0_8_of m (dats m 0 c) (A_eq m c 8) (after_8 m c) t d

/-- What the body finds at the grid point `t`. -/
def found (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body leaves at the grid point `t`. -/
def leaves (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 8000000 in
/-- The body at any grid point. -/
theorem body_at (c : Dev nD) (t : Fin cfg0.N) :
    found m c t ⊢ wp frame (wpE (defs₀ (F := F)) Variants.none c none) Set.univ (bodyAt0 t) (fun _ => leaves m c t) := by
  unfold found leaves bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = iprop(owns (c : Thread nD τ) scM0_0 fullShare (carryAt m c t (start m c t.val)) ∗ (∃ r, prngReg c r)) from rfl,
    show (dats m 0 c).Φ t.castSucc = Kept m c t.val (Nat.le_of_lt t.isLt) from by dsimp only [dats]; exact Pipeline.Dat.Φ_castSucc (Kept m c) t]
  by_cases h0 : t.val % 8 = 0
  · rw [start_first m c t.val h0]
    refine (sep_mono_left (kept_some m c t.val _)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyFirst c (grid0.coords t) _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · refine (sep_mono_left (kept_start m c t.val t.isLt h0)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyNext c (grid0.coords t) _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) _ (fun h => h0 ((hcond0_0 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body's obligation at every grid point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

/-- The state's buffer is there at the first point. -/
theorem kept_in (c : Dev nD) : Pipeline.ΦA spec0 c ⊢ (dats m 0 c).Φ 0 := Idealize.SL.BI.Entails.refl _

/-- The state's buffer is given back after the last point. -/
theorem kept_out (c : Dev nD) : (dats m 0 c).Φ (Fin.last cfg0.N) ⊢ Pipeline.ΦA spec0 c := by
  rw [PhiA0_eq]; exact kept_some m c cfg0.N le_rfl

set_option backward.isDefEq.respectTransparency.types false in
/-- The whole call: every fair execution ends, with each array of the pipeline at what its data say and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_all m c).loose) (hq := fun _ _ _ => rfl)
    (howed := fun _ _ => rfl) (V := V m) (hmain := hmain m Variants.none) (hA := A_eq m) (hin := kept_in m) (hout := kept_out m)

/-- The call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Retention

end

end
-- ==== Proof.RetSame.lean ====
/-
The retention kernel and its ideal reading are the same program, so the run of the one is the run of the other.
-/
module

public import proofs.«01_k».proof.Proof.Gen.Kernel8
public import proofs.«01_k».proof.Proof.RetFrame

@[expose] public section

set_option maxRecDepth 65536
set_option maxHeartbeats 4000000

noncomputable section

namespace Cert.Retention

open Idealize.ShloMosaic Idealize.SL.Sem

variable {F : FTy → Type} [FloatOps F]

/-- The two kernels have the same bodies. -/
theorem bodies_same : Cert.Kernel8.defs₀ (F := F) = Cert.Kernel8Ideal.defs₀ (F := F) := by
  unfold Cert.Kernel8.defs₀ Cert.Kernel8Ideal.defs₀
  refine congrArg Defs.onTc ?_
  funext l a
  match l, a with
  | 0, (t, s) => rfl
  | ⟨_ + 1, h⟩, _ => exact absurd h (Nat.not_lt.2 (Nat.le_add_left _ _))

/-- The two programs call the same kernels. -/
theorem defs_same : Cert.Kernel8.defs (F := F) = Cert.Kernel8Ideal.defs (F := F) := by
  exact congrArg (Pipeline.defs Cert.Kernel8Ideal.pcfgs) bodies_same

/-- The two programs have the same host code. -/
theorem main_same : Cert.Kernel8.main (F := F) = Cert.Kernel8Ideal.main (F := F) := by
  rfl

/-- The kernel's call ends with its arguments unchanged and every counter at zero. -/
theorem frame_kernel (m : (ℓ : Loc Cert.Kernel8.nD Cert.Kernel8.τ Cert.Kernel8.sig) → Buf (Elt F) ℓ) (ρ : Dev Cert.Kernel8.nD → PrngReg) :
    θ_run (Cert.Kernel8.defs (F := F)) (onTc (τ := Cert.Kernel8.τ) (Cert.Kernel8.main (F := F))) ⟨m, fun _ => 0, ρ⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0) := by
  rw [defs_same, main_same]
  exact frame m ρ

end Cert.Retention

end

end
-- ==== Proof.RetTrip.lean ====
module

public import proofs.«01_k».proof.Proof.RetFrame
public import Idealize.ShloMosaic.Lib.Pipeline.ValueKit

@[expose] public section

set_option maxRecDepth 16384

noncomputable section

namespace Cert.Retention

open Cert.Kernel8Ideal Cert.Kernel8Ideal.Gen
open Idealize.ShloMosaic Idealize.ShloMosaic.TcCoe Idealize.ShloMosaic.Tactic

variable {F : FTy → Type} [FloatOps F]

/-- Where the rows of chunk `t` of trip `k` begin in a block, at the columns of head `h`. -/
def off (h : Fin 8) (k : Fin k0_t1_loop.trips) (t : Fin 4) : Fin 3 → ℕ :=
  match h with
  | 0 => k0_off1 k (BitVec.ofNat 32 t.val)
  | 1 => k0_off2 k (BitVec.ofNat 32 t.val)
  | 2 => k0_off3 k (BitVec.ofNat 32 t.val)
  | 3 => k0_off4 k (BitVec.ofNat 32 t.val)
  | 4 => k0_off5 k (BitVec.ofNat 32 t.val)
  | 5 => k0_off6 k (BitVec.ofNat 32 t.val)
  | 6 => k0_off7 k (BitVec.ofNat 32 t.val)
  | 7 => k0_off8 k (BitVec.ofNat 32 t.val)

/-- The rows of a chunk at the columns of a head lie in the block. -/
theorem off_inb (h : Fin 8) (k : Fin k0_t1_loop.trips) (t : Fin 4) : ∀ a, off h k t a + S1x64x128.size a ≤ S1x512x1024.size a :=
  match h with
  | 0 => k0_off1_inb k t
  | 1 => k0_off2_inb k t
  | 2 => k0_off3_inb k t
  | 3 => k0_off4_inb k t
  | 4 => k0_off5_inb k t
  | 5 => k0_off6_inb k t
  | 6 => k0_off7_inb k t
  | 7 => k0_off8_inb k t

/-- The rows of a chunk at the columns of a head. -/
abbrev rows (h : Fin 8) (k : Fin k0_t1_loop.trips) (t : Fin 4) : Rect S1x512x1024 := Rect.unit (s := S1x512x1024) (off h k t) S1x64x128.size (off_inb h k t)

/-- Head `h`'s part of the state. -/
abbrev ofState (h : Fin 8) : Rect S8x128x128 := Rect.unit (s := S8x128x128) ![h.val, 0, 0] S1x128x128.size (by revert h; decide)

/-- Head `h`'s part of a decay table of rows and lanes. -/
abbrev ofTable (h : Fin 8) : Rect S8x64x128 := Rect.unit (s := S8x64x128) ![h.val, 0, 0] S1x64x128.size (by revert h; decide)

/-- Head `h`'s part of the decay table of pairs of rows. -/
abbrev ofPairs (h : Fin 8) : Rect S8x64x64 := Rect.unit (s := S8x64x64) ![h.val, 0, 0] S1x64x64.size (by revert h; decide)

/-- Head `h`'s part of the gain. -/
abbrev ofGain (h : Fin 8) : Rect S1x1024 := Rect.unit (s := S1x1024) ![0, 128 * h.val] S1x128.size (by revert h; decide)

/-- Head `h`'s chunk decay. -/
abbrev ofDecay (h : Fin 8) : Rect S8 := Rect.unit (s := S8) ![h.val] S1.size (by revert h; decide)

/-- The state of a head after a chunk: decayed by `d`, with the chunk's keys `k`, weighted by `te`, against its values `v` added. -/
def next (S : FVec F S128x128 .f32) (d : Elt F .f32) (k : Vec F S1x64x128 .bf16) (te : Vec F S1x64x128 .f32) (v : Vec F S1x64x128 .bf16) : FVec F S128x128 .f32 :=
  k0_pay132 (k0_pay5 k te v) S d

/-- The result of a head for a chunk: from its queries, keys, values and gates, its gain, its decay tables and its state on entry. -/
def result (S : FVec F S128x128 .f32) (q k v z : Vec F S1x64x128 .bf16) (g : Vec F S1x128 .f32) (dec : Vec F S1x64x64 .f32) (fs : Vec F S1x64x128 .f32) : FVec F S1x64x128 .bf16 :=
  k0_pay201 (k0_pay200 (k0_pay4 k q) (k0_pay131 S (k0_pay130 q) fs) dec v g) z

section Trip

variable (arg2 : Memref sig .tc .smem S8 .f32) (arg3 arg4 arg5 arg6 : Memref sig .tc .vmem S1x512x1024 .bf16) (arg7 : Memref sig .tc .vmem S1x1024 .f32)
  (arg8 : Memref sig .tc .vmem S8x64x64 .f32) (arg9 arg10 : Memref sig .tc .vmem S8x64x128 .f32) (arg12 : Memref sig .tc .vmem S8x128x128 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (X10 : BufTy.Contents (Elt F) arg10.view.ty)
  (k : Fin k0_t1_loop.trips) (g : BufTy.Contents (Elt F) arg12.view.ty)

/-- Head `h`'s state before chunk `n` of trip `k`, the state's buffer holding `g` on entry. -/
def within (h : Fin 8) : (n : ℕ) → n ≤ 4 → FVec F S128x128 .f32
  | 0, _ => shapeCast S128x128 (View.readAt (Elt F) arg12.view (ofState h).toLoadRect g) shapeCasts_S1x128x128_S128x128
  | n + 1, hn => next (within h n (by omega)) (View.readAt (Elt F) arg2.view (ofDecay h).toLoadRect X2 (Shape.Idx.first (show 0 < S1.numel by decide)))
      (View.readAt (Elt F) arg4.view (rows h k ⟨n, by omega⟩).toLoadRect X4) (View.readAt (Elt F) arg9.view (ofTable h).toLoadRect X9)
      (View.readAt (Elt F) arg5.view (rows h k ⟨n, by omega⟩).toLoadRect X5)

/-- What chunk `t` of trip `k` stores for head `h`, and where. -/
def stored (t : Fin 4) (h : Fin 8) : View.Piece (Elt F) S1x512x1024 .bf16 :=
  ⟨rows h k t, result (within arg2 arg4 arg5 arg9 arg12 X2 X4 X5 X9 k g h t.val (by omega))
    (View.readAt (Elt F) arg3.view (rows h k t).toLoadRect X3) (View.readAt (Elt F) arg4.view (rows h k t).toLoadRect X4)
    (View.readAt (Elt F) arg5.view (rows h k t).toLoadRect X5) (View.readAt (Elt F) arg6.view (rows h k t).toLoadRect X6)
    (View.readAt (Elt F) arg7.view (ofGain h).toLoadRect X7) (View.readAt (Elt F) arg8.view (ofPairs h).toLoadRect X8)
    (View.readAt (Elt F) arg10.view (ofTable h).toLoadRect X10)⟩

/-- What a trip stores into the state for head `h`, and where. -/
def kept (h : Fin 8) : View.Piece (Elt F) S8x128x128 .f32 :=
  ⟨ofState h, shapeCast S1x128x128 (within arg2 arg4 arg5 arg9 arg12 X2 X4 X5 X9 k g h 4 (le_refl 4)) shapeCasts_S128x128_S1x128x128⟩

variable (c : Dev nD) (i : grid0.Coords)
  (arg11 : Memref sig .tc .vmem S1x512x1024 .bf16)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole)
  (f : BufTy.Contents (Elt F) arg11.view.ty)

set_option maxHeartbeats 8000000 in
/-- The stores of a trip: the results of its chunks, and the state after the last of them. -/
theorem trip_eq : tripL_k0_t1 (F := F) Variants.none c none i arg2 harg2 arg3 harg3 arg4 harg4 arg5 harg5 arg6 harg6 arg7 harg7 arg8 harg8 arg9 harg9 arg10 harg10 arg11 harg11 arg12 harg12 X2 X3 X4 X5 X6 X7 X8 X9 X10 k f g
    = ((([(3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)] : List (Fin 4 × Fin 8))).map fun p => stored arg2 arg3 arg4 arg5 arg6 arg7 arg8 arg9 arg10 arg12 X2 X3 X4 X5 X6 X7 X8 X9 X10 k g p.1 p.2,
      ([7, 6, 5, 4, 3, 2, 1, 0] : List (Fin 8)).map fun h => kept arg2 arg4 arg5 arg9 arg12 X2 X4 X5 X9 k g h) := by
  unfold tripL_k0_t1 trip_k0_t1
  rfl

end Trip

end Cert.Retention

end

end
-- ==== Proof.RetSpec.lean ====
module

public import Idealize.ShloMosaic.Lib.Pipeline.ValueKit

@[expose] public section

noncomputable section

namespace Cert.Retention

open Idealize.ShloMosaic

/-- What one head of one sequence of the retention reads: by chunk, row and lane its queries, keys, values and gates; by lane its gain; and its decays: between
two rows of a chunk, from a row to the end of its chunk, from the start of a chunk to a row, and over a whole chunk. -/
structure Head where
  q : ℕ → Fin 64 → Fin 128 → EReal
  k : ℕ → Fin 64 → Fin 128 → EReal
  v : ℕ → Fin 64 → Fin 128 → EReal
  z : ℕ → Fin 64 → Fin 128 → EReal
  gain : Fin 128 → EReal
  pair : Fin 64 → Fin 64 → EReal
  toEnd : Fin 64 → EReal
  fromStart : Fin 64 → EReal
  whole : EReal

namespace Head

/-- The state before chunk `n`: nothing at first; then decayed over each chunk, with the chunk's keys against its values added. -/
def state (H : Head) : ℕ → Fin 128 → Fin 128 → EReal
  | 0, _, _ => 0
  | n + 1, d, e => state H n d e * H.whole + ∑ x, H.k n x d * H.toEnd x * H.v n x e

variable (H : Head)

/-- The row `r` of chunk `n` before its normalisation: the row's scores within the chunk against the values, and its decayed query against the state. -/
def mix (n : ℕ) (r : Fin 64) (e : Fin 128) : EReal :=
  ∑ x, (∑ d, H.q n r d * H.k n x d) * H.pair r x * H.v n x e + ∑ d, H.q n r d * H.fromStart r * H.state n d e

/-- The mean of a row over its lanes. -/
def mean (n : ℕ) (r : Fin 64) : EReal := Ideal.div (∑ e, H.mix n r e) (Ideal.ofBits .f32 0x43000000#32)

/-- The variance of a row over its lanes. -/
def variance (n : ℕ) (r : Fin 64) : EReal :=
  Ideal.div (∑ e, (H.mix n r e - H.mean n r) * (H.mix n r e - H.mean n r)) (Ideal.ofBits .f32 0x43000000#32)

/-- The row `r` of chunk `n` of the result: normalised over its lanes, times the gain, times the gate and its logistic. -/
def result (n : ℕ) (r : Fin 64) (e : Fin 128) : EReal :=
  (H.mix n r e - H.mean n r) * Ideal.rsqrt (H.variance n r + Ideal.ofBits .f32 0x358637BD#32) * H.gain e * (H.z n r e * Ideal.logistic (H.z n r e))

end Head

end Cert.Retention

end

end
-- ==== Proof.RetBody.lean ====
module

public import proofs.«01_k».proof.Proof.RetTrip
public import proofs.«01_k».proof.Proof.RetSpec

@[expose] public section

set_option maxRecDepth 16384

noncomputable section

namespace Cert.Retention

open Cert.Kernel8Ideal Cert.Kernel8Ideal.Gen
open Idealize.ShloMosaic Idealize.ShloMosaic.TcCoe Idealize.ShloMosaic.Tactic

/-- Row `r` of chunk `n` among the rows of a block. -/
abbrev rowOf (n : Fin 8) (r : Fin 64) : Fin 512 := ⟨n.val * 64 + r.val, by omega⟩

/-- Lane `d` of head `h` among the columns of a block. -/
abbrev colOf (h : Fin 8) (d : Fin 128) : Fin 1024 := ⟨h.val * 128 + d.val, by omega⟩

/-- There are two trips. -/
theorem trips_two : k0_t1_loop.trips = 2 := by decide +kernel

/-- Chunk `t` of trip `k` among the chunks of a block. -/
abbrev chunkOf (k : Fin k0_t1_loop.trips) (t : Fin 4) : Fin 8 := ⟨4 * k.val + t.val, by have h := k.isLt; have e := trips_two; omega⟩

/-- Where the rows of a chunk at the columns of a head begin. -/
theorem off_eq : ∀ (h : Fin 8) (k : Fin k0_t1_loop.trips) (t : Fin 4), off h k t = ![0, (chunkOf k t).val * 64, h.val * 128] := by decide +kernel

/-- The place in a block of an entry of the rows of a chunk at the columns of a head. -/
theorem rows_idx (h : Fin 8) (k : Fin k0_t1_loop.trips) (t : Fin 4) (r : Fin 64) (d : Fin 128) :
    (rows h k t).toLoadRect.idx (ix3 0 r d) = ix3 0 (rowOf (chunkOf k t) r) (colOf h d) := by
  funext a
  refine Fin.ext ?_
  show off h k t a + 1 * (ix3 (0 : Fin 1) r d a).val = _
  rw [off_eq h k t]
  match a with
  | ⟨0, _⟩ => rfl
  | ⟨1, _⟩ => show (chunkOf k t).val * 64 + 1 * r.val = (chunkOf k t).val * 64 + r.val; omega
  | ⟨2, _⟩ => show h.val * 128 + 1 * d.val = h.val * 128 + d.val; omega

/-- The place in the state of an entry of a head's part. -/
theorem state_idx (h : Fin 8) (d e : Fin 128) : (ofState h).toLoadRect.idx (ix3 0 d e) = ix3 h d e := by
  funext a
  refine Fin.ext ?_
  match a with
  | ⟨0, _⟩ => rfl
  | ⟨1, _⟩ => show 0 + 1 * d.val = d.val; omega
  | ⟨2, _⟩ => show 0 + 1 * e.val = e.val; omega

/-- A head's part of the state holds its entries. -/
theorem state_mem (h : Fin 8) (d e : Fin 128) : ix3 h d e ∈ (ofState h).set := by
  unfold ofState
  rw [Rect.mem_set_unit]
  intro a
  match a with
  | ⟨0, _⟩ => exact ⟨le_refl h.val, Nat.lt_succ_self h.val⟩
  | ⟨1, _⟩ => exact ⟨Nat.zero_le _, by show d.val < 0 + 128; omega⟩
  | ⟨2, _⟩ => exact ⟨Nat.zero_le _, by show e.val < 0 + 128; omega⟩

/-- The place in a decay table of an entry of a head's part. -/
theorem table_idx (h : Fin 8) (r : Fin 64) (d : Fin 128) : (ofTable h).toLoadRect.idx (ix3 0 r d) = ix3 h r d := by
  funext a
  refine Fin.ext ?_
  match a with
  | ⟨0, _⟩ => rfl
  | ⟨1, _⟩ => show 0 + 1 * r.val = r.val; omega
  | ⟨2, _⟩ => show 0 + 1 * d.val = d.val; omega

/-- The place in the decay table of pairs of an entry of a head's part. -/
theorem pairs_idx (h : Fin 8) (r x : Fin 64) : (ofPairs h).toLoadRect.idx (ix3 0 r x) = ix3 h r x := by
  funext a
  refine Fin.ext ?_
  match a with
  | ⟨0, _⟩ => rfl
  | ⟨1, _⟩ => show 0 + 1 * r.val = r.val; omega
  | ⟨2, _⟩ => show 0 + 1 * x.val = x.val; omega

/-- The place in the gain of an entry of a head's part. -/
theorem gain_idx (h : Fin 8) (d : Fin 128) : (ofGain h).toLoadRect.idx (ix2 0 d) = ix2 0 (colOf h d) := by
  funext a
  refine Fin.ext ?_
  match a with
  | ⟨0, _⟩ => rfl
  | ⟨1, _⟩ => show 128 * h.val + 1 * d.val = h.val * 128 + d.val; omega

/-- The place of a head's chunk decay. -/
theorem decay_idx (h : Fin 8) (o : 0 < S1.numel) : (ofDecay h).toLoadRect.idx (Shape.Idx.first o) = ix1 h := by
  funext a
  refine Fin.ext ?_
  match a with
  | ⟨0, _⟩ => rfl

/-- A place of a block whose first axis has one place. -/
theorem front {a b : ℕ} (x : (⟨3, ![1, a, b]⟩ : Shape).Idx) : ∃ (r : Fin a) (d : Fin b), x = ix3 0 r d := by
  obtain ⟨z, r, d, rfl⟩ : ∃ (z : Fin 1) (r : Fin a) (d : Fin b), x = ix3 z r d := ⟨x 0, x 1, x 2, eq_ix3 x⟩
  exact ⟨r, d, by rw [Subsingleton.elim z 0]⟩

/-- A load from a whole buffer reads the entry at its place. -/
theorem load_at {sp : Space} {s : Shape} {e : EltTy} (arg : Memref sig .tc sp s e) (h : arg.IsWhole) (x : Vec Ideal s e) (r : LoadRect s) (j : r.shape.Idx) :
    View.readAt (Elt Ideal) arg.view r (h.unread x) j = x (r.idx j) := by
  rw [View.readAt_apply, h.read_unread]

/-- Dropping the one place of the first axis. -/
theorem drop_at (x : FVec Ideal S1x128x128 .f32) (d e : Fin 128) : shapeCast S128x128 x shapeCasts_S1x128x128_S128x128 (ix2 d e) = x (ix3 0 d e) := by pointwise

/-- Adding an axis of one place in front. -/
theorem add_at (x : FVec Ideal S128x128 .f32) (d e : Fin 128) : shapeCast S1x128x128 x shapeCasts_S128x128_S1x128x128 (ix3 0 d e) = x (ix2 d e) := by pointwise

/-- An entry of the state of a head after chunk `n`, of blocks that hold what the head reads. -/
theorem next_at (H : Head) (n : ℕ) (S : FVec Ideal S128x128 .f32) (d : Elt Ideal .f32) (k : Vec Ideal S1x64x128 .bf16) (te : Vec Ideal S1x64x128 .f32) (v : Vec Ideal S1x64x128 .bf16)
    (hS : ∀ d e, S (ix2 d e) = H.state n d e) (hd : d = H.whole) (hk : ∀ r d, k (ix3 0 r d) = H.k n r d) (hte : ∀ r d, te (ix3 0 r d) = H.toEnd r) (hv : ∀ r d, v (ix3 0 r d) = H.v n r d)
    (a b : Fin 128) : next S d k te v (ix2 a b) = H.state (n + 1) a b := by
  pointwise [next, k0_pay132, k0_pay5, k0_pay3]
  simp only [hS, hd, hk, hte, hv]
  rfl

/-- An entry of the result of a head for chunk `n`, of blocks that hold what the head reads. -/
theorem result_at (H : Head) (n : ℕ) (S : FVec Ideal S128x128 .f32) (q k v z : Vec Ideal S1x64x128 .bf16) (g : Vec Ideal S1x128 .f32) (dec : Vec Ideal S1x64x64 .f32) (fs : Vec Ideal S1x64x128 .f32)
    (hS : ∀ d e, S (ix2 d e) = H.state n d e) (hq : ∀ r d, q (ix3 0 r d) = H.q n r d) (hk : ∀ r d, k (ix3 0 r d) = H.k n r d) (hv : ∀ r d, v (ix3 0 r d) = H.v n r d)
    (hz : ∀ r d, z (ix3 0 r d) = H.z n r d) (hg : ∀ d, g (ix2 0 d) = H.gain d) (hdec : ∀ r x, dec (ix3 0 r x) = H.pair r x) (hfs : ∀ r d, fs (ix3 0 r d) = H.fromStart r)
    (a : Fin 64) (b : Fin 128) : result S q k v z g dec fs (ix3 0 a b) = H.result n a b := by
  pointwise [result, k0_pay201, k0_pay200, k0_pay4, k0_pay3, k0_pay131, k0_pay130]
  simp only [hS, hq, hk, hv, hz, hg, hdec, hfs]
  rfl

/-- The blocks of a grid point hold what the heads read in the eight chunks from chunk `N` on. -/
structure Feeds (x0 : Vec Ideal S8 .f32) (x1 x2 x3 x4 : Vec Ideal S1x512x1024 .bf16) (x5 : Vec Ideal S1x1024 .f32) (x6 : Vec Ideal S8x64x64 .f32) (x7 x8 : Vec Ideal S8x64x128 .f32)
    (H : Fin 8 → Head) (N : ℕ) : Prop where
  whole : ∀ h, x0 (ix1 h) = (H h).whole
  q : ∀ h (n : Fin 8) r d, x1 (ix3 0 (rowOf n r) (colOf h d)) = (H h).q (N + n.val) r d
  k : ∀ h (n : Fin 8) r d, x2 (ix3 0 (rowOf n r) (colOf h d)) = (H h).k (N + n.val) r d
  v : ∀ h (n : Fin 8) r d, x3 (ix3 0 (rowOf n r) (colOf h d)) = (H h).v (N + n.val) r d
  z : ∀ h (n : Fin 8) r d, x4 (ix3 0 (rowOf n r) (colOf h d)) = (H h).z (N + n.val) r d
  gain : ∀ h d, x5 (ix2 0 (colOf h d)) = (H h).gain d
  pair : ∀ h r x, x6 (ix3 h r x) = (H h).pair r x
  toEnd : ∀ h r (d : Fin 128), x7 (ix3 h r d) = (H h).toEnd r
  fromStart : ∀ h r (d : Fin 128), x8 (ix3 h r d) = (H h).fromStart r

/-- The result at a place of a block that begins at chunk `N`: of the column's head, for the row's chunk, at the row in the chunk and the lane in the head. -/
def entry (H : Fin 8 → Head) (N : ℕ) (y : S1x512x1024.Idx) : EReal :=
  (H ⟨(y 2).val / 128, by have h : (y 2).val < 1024 := (y 2).isLt; omega⟩).result (N + (y 1).val / 64) ⟨(y 1).val % 64, by omega⟩ ⟨(y 2).val % 128, by omega⟩

/-- `entry` at a row of a chunk and a lane of a head. -/
theorem entry_row (H : Fin 8 → Head) (N : ℕ) (h : Fin 8) (n : Fin 8) (r : Fin 64) (d : Fin 128) :
    entry H N (ix3 0 (rowOf n r) (colOf h d)) = (H h).result (N + n.val) r d := by
  have e1 : (⟨(h.val * 128 + d.val) / 128, by omega⟩ : Fin 8) = h := Fin.ext (by show (h.val * 128 + d.val) / 128 = h.val; omega)
  have e2 : (n.val * 64 + r.val) / 64 = n.val := by omega
  have e3 : (⟨(n.val * 64 + r.val) % 64, by omega⟩ : Fin 64) = r := Fin.ext (by show (n.val * 64 + r.val) % 64 = r.val; omega)
  have e4 : (⟨(h.val * 128 + d.val) % 128, by omega⟩ : Fin 128) = d := Fin.ext (by show (h.val * 128 + d.val) % 128 = d.val; omega)
  show (H ⟨(h.val * 128 + d.val) / 128, _⟩).result (N + (n.val * 64 + r.val) / 64) ⟨(n.val * 64 + r.val) % 64, _⟩ ⟨(h.val * 128 + d.val) % 128, _⟩ = _
  rw [e1, e2, e3, e4]

section Body

variable (c : Dev nD) (i : grid0.Coords)
  (arg2 : Memref sig .tc .smem S8 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .bf16) (harg6 : arg6.IsWhole)
  (arg7 : Memref sig .tc .vmem S1x1024 .f32) (harg7 : arg7.IsWhole)
  (arg8 : Memref sig .tc .vmem S8x64x64 .f32) (harg8 : arg8.IsWhole)
  (arg9 : Memref sig .tc .vmem S8x64x128 .f32) (harg9 : arg9.IsWhole)
  (arg10 : Memref sig .tc .vmem S8x64x128 .f32) (harg10 : arg10.IsWhole)
  (arg11 : Memref sig .tc .vmem S1x512x1024 .bf16) (harg11 : arg11.IsWhole)
  (arg12 : Memref sig .tc .vmem S8x128x128 .f32) (harg12 : arg12.IsWhole)
  (x0 : Vec Ideal S8 .f32) (x1 x2 x3 x4 : Vec Ideal S1x512x1024 .bf16) (x5 : Vec Ideal S1x1024 .f32) (x6 : Vec Ideal S8x64x64 .f32) (x7 x8 : Vec Ideal S8x64x128 .f32)
  (H : Fin 8 → Head) (N : ℕ) (feeds : Feeds x0 x1 x2 x3 x4 x5 x6 x7 x8 H N)
  (k : Fin k0_t1_loop.trips) (g : BufTy.Contents (Elt Ideal) arg12.view.ty)

include feeds in
/-- Within a trip that begins at the state before its first chunk, a head's state is the state before each chunk. -/
theorem within_at (hg : ∀ h d e, arg12.view.read (Elt Ideal) g (ix3 h d e) = (H h).state (N + 4 * k.val) d e) (h : Fin 8) (n : ℕ) (hn : n ≤ 4) (d e : Fin 128) :
    within arg2 arg4 arg5 arg9 arg12 (harg2.unread x0) (harg4.unread x2) (harg5.unread x3) (harg9.unread x7) k g h n hn (ix2 d e) = (H h).state (N + 4 * k.val + n) d e := by
  induction n generalizing d e with
  | zero =>
    refine Eq.trans ?_ (hg h d e)
    show shapeCast S128x128 (View.readAt (Elt Ideal) arg12.view (ofState h).toLoadRect g) shapeCasts_S1x128x128_S128x128 (ix2 d e) = _
    rw [drop_at, View.readAt_apply, state_idx]
  | succ n ih =>
    refine next_at (H h) (N + 4 * k.val + n) _ _ _ _ _ (fun d e => ih (by omega) d e) ?_ (fun r d => ?_) (fun r d => ?_) (fun r d => ?_) d e
    · rw [load_at, decay_idx, feeds.whole]
    · rw [load_at, rows_idx, feeds.k]; exact congrArg (fun j => (H h).k j r d) (Nat.add_assoc N (4 * k.val) n).symm
    · rw [load_at, table_idx, feeds.toEnd]
    · rw [load_at, rows_idx, feeds.v]; exact congrArg (fun j => (H h).v j r d) (Nat.add_assoc N (4 * k.val) n).symm

include feeds in
/-- What a trip stores for a chunk and a head is the head's result for that chunk. -/
theorem stored_at (hg : ∀ h d e, arg12.view.read (Elt Ideal) g (ix3 h d e) = (H h).state (N + 4 * k.val) d e) (t : Fin 4) (h : Fin 8) (r : Fin 64) (e : Fin 128) :
    (stored arg2 arg3 arg4 arg5 arg6 arg7 arg8 arg9 arg10 arg12 (harg2.unread x0) (harg3.unread x1) (harg4.unread x2) (harg5.unread x3) (harg6.unread x4) (harg7.unread x5) (harg8.unread x6) (harg9.unread x7) (harg10.unread x8) k g t h).2 (ix3 0 r e) = (H h).result (N + (chunkOf k t).val) r e := by
  refine result_at (H h) _ _ _ _ _ _ _ _ _ (fun d e => ?_) (fun r d => ?_) (fun r d => ?_) (fun r d => ?_) (fun r d => ?_) (fun d => ?_) (fun r x => ?_) (fun r d => ?_) r e
  · exact (within_at arg2 harg2 arg4 harg4 arg5 harg5 arg9 harg9 arg12 x0 x1 x2 x3 x4 x5 x6 x7 x8 H N feeds k g hg h t.val (le_of_lt t.isLt) d e).trans (congrArg (fun j => (H h).state j d e) (Nat.add_assoc N (4 * k.val) t.val))
  · rw [load_at, rows_idx, feeds.q]
  · rw [load_at, rows_idx, feeds.k]
  · rw [load_at, rows_idx, feeds.v]
  · rw [load_at, rows_idx, feeds.z]
  · rw [load_at, gain_idx, feeds.gain]
  · rw [load_at, pairs_idx, feeds.pair]
  · rw [load_at, table_idx, feeds.fromStart]

omit k g

/-- The state's buffer after the first `n` trips, `S` on entry. -/
def stateBuf (S : Vec Ideal S8x128x128 .f32) (n : ℕ) : BufTy.Contents (Elt Ideal) arg12.view.ty :=
  arg12.view.writes (Elt Ideal) (harg12.unread S) (pieces c i arg2 harg2 arg3 harg3 arg4 harg4 arg5 harg5 arg6 harg6 arg7 harg7 arg8 harg8 arg9 harg9 arg10 harg10 arg11 harg11 arg12 harg12 x0 x1 x2 x3 x4 x5 x6 x7 x8 S n).2

variable (S : Vec Ideal S8x128x128 .f32)

/-- The pieces of the first `k + 1` trips: those of the trip `k`, then those before. -/
theorem pieces_succ (k : Fin k0_t1_loop.trips) : pieces c i arg2 harg2 arg3 harg3 arg4 harg4 arg5 harg5 arg6 harg6 arg7 harg7 arg8 harg8 arg9 harg9 arg10 harg10 arg11 harg11 arg12 harg12 x0 x1 x2 x3 x4 x5 x6 x7 x8 S (k.val + 1)
    = ((([(3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)] : List (Fin 4 × Fin 8))).map
          (fun p => stored arg2 arg3 arg4 arg5 arg6 arg7 arg8 arg9 arg10 arg12 (harg2.unread x0) (harg3.unread x1) (harg4.unread x2) (harg5.unread x3) (harg6.unread x4) (harg7.unread x5) (harg8.unread x6) (harg9.unread x7) (harg10.unread x8) k (stateBuf c i arg2 harg2 arg3 harg3 arg4 harg4 arg5 harg5 arg6 harg6 arg7 harg7 arg8 harg8 arg9 harg9 arg10 harg10 arg11 harg11 arg12 harg12 x0 x1 x2 x3 x4 x5 x6 x7 x8 S k.val) p.1 p.2) ++ (pieces c i arg2 harg2 arg3 harg3 arg4 harg4 arg5 harg5 arg6 harg6 arg7 harg7 arg8 harg8 arg9 harg9 arg10 harg10 arg11 harg11 arg12 harg12 x0 x1 x2 x3 x4 x5 x6 x7 x8 S k.val).1,
      (([7, 6, 5, 4, 3, 2, 1, 0] : List (Fin 8)).map fun h => kept arg2 arg4 arg5 arg9 arg12 (harg2.unread x0) (harg4.unread x2) (harg5.unread x3) (harg9.unread x7) k (stateBuf c i arg2 harg2 arg3 harg3 arg4 harg4 arg5 harg5 arg6 harg6 arg7 harg7 arg8 harg8 arg9 harg9 arg10 harg10 arg11 harg11 arg12 harg12 x0 x1 x2 x3 x4 x5 x6 x7 x8 S k.val) h) ++ (pieces c i arg2 harg2 arg3 harg3 arg4 harg4 arg5 harg5 arg6 harg6 arg7 harg7 arg8 harg8 arg9 harg9 arg10 harg10 arg11 harg11 arg12 harg12 x0 x1 x2 x3 x4 x5 x6 x7 x8 S k.val).2) := by
  unfold stateBuf
  unfold pieces
  rw [pb_k0_t1_succ, trip_eq]

include feeds in
/-- After `n` trips the state's buffer holds the state of each head before the chunk that comes next. -/
theorem stateBuf_at (hS : ∀ h d e, S (ix3 h d e) = (H h).state N d e) (n : ℕ) (hn : n ≤ 2) (h : Fin 8) (d e : Fin 128) :
    arg12.view.read (Elt Ideal) (stateBuf c i arg2 harg2 arg3 harg3 arg4 harg4 arg5 harg5 arg6 harg6 arg7 harg7 arg8 harg8 arg9 harg9 arg10 harg10 arg11 harg11 arg12 harg12 x0 x1 x2 x3 x4 x5 x6 x7 x8 S n) (ix3 h d e) = (H h).state (N + 4 * n) d e := by
  induction n generalizing h d e with
  | zero =>
    refine Eq.trans (congrFun (harg12.read_unread S) (ix3 h d e)) (hS h d e)
  | succ n ih =>
    have hk : n < k0_t1_loop.trips := by rw [trips_two]; omega
    unfold stateBuf
    rw [show pieces c i arg2 harg2 arg3 harg3 arg4 harg4 arg5 harg5 arg6 harg6 arg7 harg7 arg8 harg8 arg9 harg9 arg10 harg10 arg11 harg11 arg12 harg12 x0 x1 x2 x3 x4 x5 x6 x7 x8 S (n + 1) = _ from pieces_succ c i arg2 harg2 arg3 harg3 arg4 harg4 arg5 harg5 arg6 harg6 arg7 harg7 arg8 harg8 arg9 harg9 arg10 harg10 arg11 harg11 arg12 harg12 x0 x1 x2 x3 x4 x5 x6 x7 x8 S ⟨n, hk⟩]
    rw [View.writes_append]
    have hm : ∃ p ∈ ([7, 6, 5, 4, 3, 2, 1, 0] : List (Fin 8)).map (fun h => kept arg2 arg4 arg5 arg9 arg12 (harg2.unread x0) (harg4.unread x2) (harg5.unread x3) (harg9.unread x7) ⟨n, hk⟩ (stateBuf c i arg2 harg2 arg3 harg3 arg4 harg4 arg5 harg5 arg6 harg6 arg7 harg7 arg8 harg8 arg9 harg9 arg10 harg10 arg11 harg11 arg12 harg12 x0 x1 x2 x3 x4 x5 x6 x7 x8 S n) h), ix3 h d e ∈ p.1.set := by
      refine ⟨_, List.mem_map.mpr ⟨h, (by decide : ∀ h : Fin 8, h ∈ ([7, 6, 5, 4, 3, 2, 1, 0] : List (Fin 8))) h, rfl⟩, ?_⟩
      exact state_mem h d e
    rw [View.read_writes_apply_eq_canon _ _ _ _ hm]
    refine View.canon_apply_of_pieces (fun y => (H (y 0)).state (N + 4 * (n + 1)) (y 1) (y 2)) _ (fun p hp x => ?_) _ hm
    obtain ⟨h', -, rfl⟩ := List.mem_map.mp hp
    obtain ⟨d', e', rfl⟩ := front x
    show shapeCast S1x128x128 (within arg2 arg4 arg5 arg9 arg12 (harg2.unread x0) (harg4.unread x2) (harg5.unread x3) (harg9.unread x7) ⟨n, hk⟩ (stateBuf c i arg2 harg2 arg3 harg3 arg4 harg4 arg5 harg5 arg6 harg6 arg7 harg7 arg8 harg8 arg9 harg9 arg10 harg10 arg11 harg11 arg12 harg12 x0 x1 x2 x3 x4 x5 x6 x7 x8 S n) h' 4 (le_refl 4)) shapeCasts_S128x128_S1x128x128 (ix3 0 d' e')
      = (fun y : S8x128x128.Idx => (H (y 0)).state (N + 4 * (n + 1)) (y 1) (y 2)) ((ofState h').toLoadRect.idx (ix3 0 d' e'))
    rw [add_at, state_idx]
    exact within_at arg2 harg2 arg4 harg4 arg5 harg5 arg9 harg9 arg12 x0 x1 x2 x3 x4 x5 x6 x7 x8 H N feeds ⟨n, hk⟩ _ (fun h d e => ih (by omega) h d e) h' 4 (le_refl 4) d' e'

include feeds in
/-- The state a grid point leaves is the state of each head eight chunks on. -/
theorem carry_at (hS : ∀ h d e, S (ix3 h d e) = (H h).state N d e) (h : Fin 8) (d e : Fin 128) :
    carry c i arg2 harg2 arg3 harg3 arg4 harg4 arg5 harg5 arg6 harg6 arg7 harg7 arg8 harg8 arg9 harg9 arg10 harg10 arg11 harg11 arg12 harg12 x0 x1 x2 x3 x4 x5 x6 x7 x8 S (ix3 h d e) = (H h).state (N + 8) d e :=
  stateBuf_at c i arg2 harg2 arg3 harg3 arg4 harg4 arg5 harg5 arg6 harg6 arg7 harg7 arg8 harg8 arg9 harg9 arg10 harg10 arg11 harg11 arg12 harg12 x0 x1 x2 x3 x4 x5 x6 x7 x8 H N feeds S hS 2 (le_refl 2) h d e

include feeds in
/-- What the first `n` trips store is the result. -/
theorem pieces_at (hS : ∀ h d e, S (ix3 h d e) = (H h).state N d e) (n : ℕ) (hn : n ≤ 2) (p) (hp : p ∈ (pieces c i arg2 harg2 arg3 harg3 arg4 harg4 arg5 harg5 arg6 harg6 arg7 harg7 arg8 harg8 arg9 harg9 arg10 harg10 arg11 harg11 arg12 harg12 x0 x1 x2 x3 x4 x5 x6 x7 x8 S n).1) (x : p.1.shape.Idx) :
    p.2 x = entry H N (p.1.emb x) := by
  induction n generalizing p with
  | zero => exact absurd hp List.not_mem_nil
  | succ n ih =>
    have hk : n < k0_t1_loop.trips := by rw [trips_two]; omega
    rw [show pieces c i arg2 harg2 arg3 harg3 arg4 harg4 arg5 harg5 arg6 harg6 arg7 harg7 arg8 harg8 arg9 harg9 arg10 harg10 arg11 harg11 arg12 harg12 x0 x1 x2 x3 x4 x5 x6 x7 x8 S (n + 1) = _ from pieces_succ c i arg2 harg2 arg3 harg3 arg4 harg4 arg5 harg5 arg6 harg6 arg7 harg7 arg8 harg8 arg9 harg9 arg10 harg10 arg11 harg11 arg12 harg12 x0 x1 x2 x3 x4 x5 x6 x7 x8 S ⟨n, hk⟩] at hp
    rcases List.mem_append.mp hp with hp | hp
    · obtain ⟨⟨t, h⟩, -, rfl⟩ := List.mem_map.mp hp
      obtain ⟨r, d, rfl⟩ := front x
      refine (stored_at arg2 harg2 arg3 harg3 arg4 harg4 arg5 harg5 arg6 harg6 arg7 harg7 arg8 harg8 arg9 harg9 arg10 harg10 arg12 x0 x1 x2 x3 x4 x5 x6 x7 x8 H N feeds ⟨n, hk⟩ (stateBuf c i arg2 harg2 arg3 harg3 arg4 harg4 arg5 harg5 arg6 harg6 arg7 harg7 arg8 harg8 arg9 harg9 arg10 harg10 arg11 harg11 arg12 harg12 x0 x1 x2 x3 x4 x5 x6 x7 x8 S n) (fun h d e => stateBuf_at c i arg2 harg2 arg3 harg3 arg4 harg4 arg5 harg5 arg6 harg6 arg7 harg7 arg8 harg8 arg9 harg9 arg10 harg10 arg11 harg11 arg12 harg12 x0 x1 x2 x3 x4 x5 x6 x7 x8 H N feeds S hS n (by omega) h d e) t h r d).trans ?_
      show _ = entry H N ((rows h ⟨n, hk⟩ t).toLoadRect.idx (ix3 0 r d))
      rw [rows_idx]
      refine Eq.trans ?_ (entry_row H N h (chunkOf ⟨n, hk⟩ t) r d).symm
      rfl
    · exact ih (by omega) p hp x

include feeds in
/-- The block a grid point writes is the result of its eight chunks. -/
theorem out_at (hS : ∀ h d e, S (ix3 h d e) = (H h).state N d e) (y : S1x512x1024.Idx) :
    out c i arg2 harg2 arg3 harg3 arg4 harg4 arg5 harg5 arg6 harg6 arg7 harg7 arg8 harg8 arg9 harg9 arg10 harg10 arg11 harg11 arg12 harg12 x0 x1 x2 x3 x4 x5 x6 x7 x8 S y = entry H N y := by
  unfold out
  rw [View.read_writes_apply_eq_canon _ _ _ _ (cover c i arg2 harg2 arg3 harg3 arg4 harg4 arg5 harg5 arg6 harg6 arg7 harg7 arg8 harg8 arg9 harg9 arg10 harg10 arg11 harg11 arg12 harg12 x0 x1 x2 x3 x4 x5 x6 x7 x8 S y)]
  exact View.canon_apply_of_pieces (entry H N) _ (fun p hp x => pieces_at c i arg2 harg2 arg3 harg3 arg4 harg4 arg5 harg5 arg6 harg6 arg7 harg7 arg8 harg8 arg9 harg9 arg10 harg10 arg11 harg11 arg12 harg12 x0 x1 x2 x3 x4 x5 x6 x7 x8 H N feeds S hS 2 (le_refl 2) p hp x) _ (cover c i arg2 harg2 arg3 harg3 arg4 harg4 arg5 harg5 arg6 harg6 arg7 harg7 arg8 harg8 arg9 harg9 arg10 harg10 arg11 harg11 arg12 harg12 x0 x1 x2 x3 x4 x5 x6 x7 x8 S y)

end Body

end Cert.Retention

end

end
-- ==== Proof.RetHeads.lean ====
module

public import proofs.«01_k».proof.Proof.RetSpec
public import proofs.«01_k».proof.Proof.Gen.Reference8Ideal.Run
public import Idealize.ShloMosaic.Lib.Pipeline.ValueKit

@[expose] public section

noncomputable section

namespace Cert.Retention

open Idealize.ShloMosaic Cert.Reference8Ideal Cert.Reference8Ideal.Gen

/-- The logarithm of each head's decay, of `1 - 2 ^ (-5 - h)` for head `h`. -/
def logDecay : FVec Ideal S8 .f32 :=
  Host.log (subf (broadcastInDim S8 ![] bcast_S_S8 (constant (F := Ideal) S_ .f32 0x3F800000#32))
    (Host.powf (broadcastInDim S8 ![] bcast_S_S8 (constant (F := Ideal) S_ .f32 0x40000000#32))
      (subf (broadcastInDim S8 ![] bcast_S_S8 (constant (F := Ideal) S_ .f32 0xC0A00000#32)) (sitofp .f32 (iotaInDim S8 32 0)))))

/-- The rows' places in their chunk. -/
def places : FVec Ideal S64 .f32 := sitofp .f32 (iotaInDim S64 32 0)

/-- By head, the decay between two rows of a chunk: over the distance of their places. -/
def pairTable : FVec Ideal S8x64x64 .f32 :=
  Host.exp (mulf (broadcastInDim S8x64x64 ![0, 1, 2] bcast_S8x1x1_S8x64x64_0_1_2 (broadcastInDim S8x1x1 ![0] bcast_S8_S8x1x1_0 logDecay))
    (broadcastInDim S8x64x64 ![0, 1, 2] bcast_S1x64x64_S8x64x64_0_1_2 (broadcastInDim S1x64x64 ![1, 2] bcast_S64x64_S1x64x64_1_2
      (Host.absf (subf (broadcastInDim S64x64 ![0, 1] bcast_S64x1_S64x64_0_1 (broadcastInDim S64x1 ![0] bcast_S64_S64x1_0 places))
        (broadcastInDim S64x64 ![0, 1] bcast_S1x64_S64x64_0_1 (broadcastInDim S1x64 ![1] bcast_S64_S1x64_1 places)))))))

/-- By row and head, the decay over the distances `away`. -/
def rowTable (away : FVec Ideal S64 .f32) : FVec Ideal S64x8 .f32 :=
  Host.exp (mulf (broadcastInDim S64x8 ![0, 1] bcast_S1x8_S64x8_0_1 (broadcastInDim S1x8 ![1] bcast_S8_S1x8_1 logDecay))
    (broadcastInDim S64x8 ![0, 1] bcast_S64x1_S64x8_0_1 (broadcastInDim S64x1 ![0] bcast_S64_S64x1_0 away)))

/-- The decay from a row to the end of its chunk. -/
def endTable : FVec Ideal S64x8 .f32 := rowTable (subf (broadcastInDim S64 ![] bcast_S_S64 (constant (F := Ideal) S_ .f32 0x427C0000#32)) places)

/-- The decay from the start of a chunk to a row. -/
def startTable : FVec Ideal S64x8 .f32 := rowTable (addf places (broadcastInDim S64 ![] bcast_S_S64 (constant (F := Ideal) S_ .f32 0x3F800000#32)))

/-- The decay over a whole chunk. -/
def wholeTable : FVec Ideal S8 .f32 := Host.exp (mulf logDecay (broadcastInDim S8 ![] bcast_S_S8 (constant (F := Ideal) S_ .f32 0x42800000#32)))

/-- The row of the projections that holds row `r` of chunk `n` of sequence `b`. -/
abbrev rowAt (b : Fin 4) (n : ℕ) (r : Fin 64) : Fin 16384 := ⟨(b.val * 4096 + n * 64 + r.val) % 16384, by omega⟩

/-- What head `h` of sequence `b` reads: queries and keys in the first and the second half of `rqk`, values and gates in the first 1024 columns and the next 1024 of `pb`,
and the decays as the plain program computes them. -/
def headOf (rqk : S16384x2048.Idx → EReal) (pb : S16384x6144.Idx → EReal) (gain : S1x1024.Idx → EReal) (b : Fin 4) (h : Fin 8) : Head where
  q n r d := rqk (ix2 (rowAt b n r) ⟨h.val * 128 + d.val, by omega⟩)
  k n r d := rqk (ix2 (rowAt b n r) ⟨1024 + (h.val * 128 + d.val), by omega⟩)
  v n r d := pb (ix2 (rowAt b n r) ⟨h.val * 128 + d.val, by omega⟩)
  z n r d := pb (ix2 (rowAt b n r) ⟨1024 + (h.val * 128 + d.val), by omega⟩)
  gain d := gain (ix2 0 ⟨h.val * 128 + d.val, by omega⟩)
  pair r x := pairTable (ix3 h r x)
  toEnd r := endTable (ix2 r h)
  fromStart r := startTable (ix2 r h)
  whole := wholeTable (ix1 h)

/-- The whole result: at a position of a sequence and a column, the result of the column's head for the position's chunk. -/
def outcome (rqk : S16384x2048.Idx → EReal) (pb : S16384x6144.Idx → EReal) (gain : S1x1024.Idx → EReal) : S4x4096x1024.Idx → EReal := fun y =>
  (headOf rqk pb gain (y 0) ⟨(y 2).val / 128, by have h : (y 2).val < 1024 := (y 2).isLt; omega⟩).result ((y 1).val / 64) ⟨(y 1).val % 64, by omega⟩ ⟨(y 2).val % 128, by omega⟩

end Cert.Retention

end

end
-- ==== Proof.RetValue.lean ====
module

public import proofs.«01_k».proof.Proof.RetBody
public import proofs.«01_k».proof.Proof.RetHeads

@[expose] public section

set_option maxRecDepth 16384

noncomputable section

open Idealize.ShloMosaic Idealize.ShloMosaic.TcCoe Idealize.SL.Sem
open Idealize.ShloMosaic.Pipeline (Dat)

namespace Cert.Retention

open Cert.Kernel8Ideal Cert.Kernel8Ideal.Gen

variable (m : (ℓ : Loc nD τ sig) → Buf (Elt Ideal) ℓ)

/-- The blocks each window is at, at the grid point `t`: eight grid points for each sequence. -/
theorem idx : ∀ t : Fin cfg0.N, win0_0.index t = ![0] ∧ win0_1.index t = ![t.val / 8, t.val % 8, 0] ∧ win0_2.index t = ![t.val / 8, t.val % 8, 1]
    ∧ win0_3.index t = ![t.val / 8, t.val % 8, 0] ∧ win0_4.index t = ![t.val / 8, t.val % 8, 1] ∧ win0_5.index t = ![0, 0] ∧ win0_6.index t = ![0, 0, 0]
    ∧ win0_7.index t = ![0, 0, 0] ∧ win0_8.index t = ![0, 0, 0] ∧ win0_9.index t = ![t.val / 8, t.val % 8, 0] :=
  (by decide +kernel : ∀ t : Fin grid0.N, _)

/-- The place in the result of an entry of the block written at `t`. -/
theorem place (t : Fin cfg0.N) (y) : (((cfg0.win 9).blk t).view.emb y)
    = ix3 ⟨t.val / 8, by idx_bounds; omega⟩ ⟨t.val % 8 * 512 + (y 1).val, by idx_bounds; omega⟩ (y 2) := by
  blk_ext [idx t]

/-- The queries the grid point `t` reads. -/
theorem queries (c : Dev nD) (t : Fin cfg0.N) (y : (win0_1.xblock (grid0.coords t)).Idx) : iblk m c 1 t y
    = m ((c : Thread nD τ).loc main_arg0) (ix2 ⟨t.val / 8 * 4096 + (t.val % 8 * 512 + (y 1).val), by idx_bounds; omega⟩ ⟨(y 2).val, by idx_bounds; omega⟩) := by
  blk_point [iblk, idx t]

/-- The keys the grid point `t` reads. -/
theorem keys (c : Dev nD) (t : Fin cfg0.N) (y : (win0_2.xblock (grid0.coords t)).Idx) : iblk m c 2 t y
    = m ((c : Thread nD τ).loc main_arg0) (ix2 ⟨t.val / 8 * 4096 + (t.val % 8 * 512 + (y 1).val), by idx_bounds; omega⟩ ⟨1024 + (y 2).val, by idx_bounds; omega⟩) := by
  blk_point [iblk, idx t]

/-- The values the grid point `t` reads. -/
theorem values (c : Dev nD) (t : Fin cfg0.N) (y : (win0_3.xblock (grid0.coords t)).Idx) : iblk m c 3 t y
    = m ((c : Thread nD τ).loc main_arg1) (ix2 ⟨t.val / 8 * 4096 + (t.val % 8 * 512 + (y 1).val), by idx_bounds; omega⟩ ⟨(y 2).val, by idx_bounds; omega⟩) := by
  blk_point [iblk, idx t]

/-- The gates the grid point `t` reads. -/
theorem gates (c : Dev nD) (t : Fin cfg0.N) (y : (win0_4.xblock (grid0.coords t)).Idx) : iblk m c 4 t y
    = m ((c : Thread nD τ).loc main_arg1) (ix2 ⟨t.val / 8 * 4096 + (t.val % 8 * 512 + (y 1).val), by idx_bounds; omega⟩ ⟨1024 + (y 2).val, by idx_bounds; omega⟩) := by
  blk_point [iblk, idx t]

/-- The gain, as every grid point reads it. -/
theorem gains (c : Dev nD) (t : Fin cfg0.N) (y : (win0_5.xblock (grid0.coords t)).Idx) : iblk m c 5 t y
    = m ((c : Thread nD τ).loc main_arg2) (ix2 0 (y 1)) := by
  blk_point [iblk, idx t]

/-- The decay over a chunk is the plain program's. -/
theorem wholes (c : Dev nD) (h : Fin 8) : V m c main_v40 (ix1 h) = wholeTable (ix1 h) := by
  simp only [V, List.flatten_cons, List.flatten_nil, List.append_nil, List.cons_append, List.nil_append]
  entry_read
  rfl

/-- The decays between rows of a chunk are the plain program's. -/
theorem pairs (c : Dev nD) (h : Fin 8) (r x : Fin 64) : V m c main_v21 (ix3 h r x) = pairTable (ix3 h r x) := by
  simp only [V, List.flatten_cons, List.flatten_nil, List.append_nil, List.cons_append, List.nil_append]
  entry_read
  rfl

/-- The decays to the end of a chunk are the plain program's, the same for every lane. -/
theorem toEnds (c : Dev nD) (h : Fin 8) (r : Fin 64) (d : Fin 128) : V m c main_v42 (ix3 h r d) = endTable (ix2 r h) := by
  simp only [V, List.flatten_cons, List.flatten_nil, List.append_nil, List.cons_append, List.nil_append]
  entry_read
  rfl

/-- The decays from the start of a chunk are the plain program's, the same for every lane. -/
theorem fromStarts (c : Dev nD) (h : Fin 8) (r : Fin 64) (d : Fin 128) : V m c main_v44 (ix3 h r d) = startTable (ix2 r h) := by
  simp only [V, List.flatten_cons, List.flatten_nil, List.append_nil, List.cons_append, List.nil_append]
  entry_read
  rfl

/-- There are thirty-two grid points. -/
theorem points : cfg0.N = 32 := by decide +kernel

/-- The heads of the sequence that the grid point `n` works at. -/
abbrev headsAt (c : Dev nD) (n : ℕ) : Fin 8 → Head := headOf (m ((c : Thread nD τ).loc main_arg0)) (m ((c : Thread nD τ).loc main_arg1)) (m ((c : Thread nD τ).loc main_arg2)) ⟨n / 8 % 4, by omega⟩

/-- The blocks of the grid point `t` hold what its sequence's heads read in its eight chunks. -/
theorem feeds_at (c : Dev nD) (t : Fin cfg0.N) :
    Feeds (iblk m c 0 t) (iblk m c 1 t) (iblk m c 2 t) (iblk m c 3 t) (iblk m c 4 t) (iblk m c 5 t) (iblk m c 6 t) (iblk m c 7 t) (iblk m c 8 t) (headsAt m c t.val) (8 * (t.val % 8)) where
  whole h := by
    refine Eq.trans ?_ (wholes m c h)
    blk_point [iblk, idx t]
  q h n r d := by
    refine (queries m c t _).trans (congrArg (m ((c : Thread nD τ).loc main_arg0)) (congrArg₂ ix2 (Fin.ext ?_) (Fin.ext rfl)))
    have := t.isLt; have := points; have := n.isLt; have := r.isLt
    show t.val / 8 * 4096 + (t.val % 8 * 512 + (n.val * 64 + r.val)) = (t.val / 8 % 4 * 4096 + (8 * (t.val % 8) + n.val) * 64 + r.val) % 16384
    omega
  k h n r d := by
    refine (keys m c t _).trans (congrArg (m ((c : Thread nD τ).loc main_arg0)) (congrArg₂ ix2 (Fin.ext ?_) (Fin.ext rfl)))
    have := t.isLt; have := points; have := n.isLt; have := r.isLt
    show t.val / 8 * 4096 + (t.val % 8 * 512 + (n.val * 64 + r.val)) = (t.val / 8 % 4 * 4096 + (8 * (t.val % 8) + n.val) * 64 + r.val) % 16384
    omega
  v h n r d := by
    refine (values m c t _).trans (congrArg (m ((c : Thread nD τ).loc main_arg1)) (congrArg₂ ix2 (Fin.ext ?_) (Fin.ext rfl)))
    have := t.isLt; have := points; have := n.isLt; have := r.isLt
    show t.val / 8 * 4096 + (t.val % 8 * 512 + (n.val * 64 + r.val)) = (t.val / 8 % 4 * 4096 + (8 * (t.val % 8) + n.val) * 64 + r.val) % 16384
    omega
  z h n r d := by
    refine (gates m c t _).trans (congrArg (m ((c : Thread nD τ).loc main_arg1)) (congrArg₂ ix2 (Fin.ext ?_) (Fin.ext rfl)))
    have := t.isLt; have := points; have := n.isLt; have := r.isLt
    show t.val / 8 * 4096 + (t.val % 8 * 512 + (n.val * 64 + r.val)) = (t.val / 8 % 4 * 4096 + (8 * (t.val % 8) + n.val) * 64 + r.val) % 16384
    omega
  gain h d := gains m c t (ix2 0 (colOf h d))
  pair h r x := by
    refine Eq.trans ?_ (pairs m c h r x)
    blk_point [iblk, idx t]
  toEnd h r d := by
    refine Eq.trans ?_ (toEnds m c h r d)
    blk_point [iblk, idx t]
  fromStart h r d := by
    refine Eq.trans ?_ (fromStarts m c h r d)
    blk_point [iblk, idx t]

/-- The state a grid point works from is the state of its sequence's heads before its first chunk. -/
theorem start_at (c : Dev nD) (n : ℕ) (hn : n < cfg0.N) (h : Fin 8) (d e : Fin 128) :
    start m c n (ix3 h d e) = (headsAt m c n h).state (8 * (n % 8)) d e := by
  induction n generalizing h d e with
  | zero =>
    rw [start_first m c 0 rfl]
    show k0_pay1 (F := Ideal) (ix3 h d e) = 0
    pointwise [k0_pay1]
  | succ n ih =>
    by_cases h8 : (n + 1) % 8 = 0
    · rw [start_first m c (n + 1) h8, h8]
      show k0_pay1 (F := Ideal) (ix3 h d e) = 0
      pointwise [k0_pay1]
    · have hn' : n < cfg0.N := Nat.lt_of_succ_lt hn
      rw [start_next m c n h8 hn']
      have e1 : 8 * ((n + 1) % 8) = 8 * (n % 8) + 8 := by omega
      have e2 : (⟨(n + 1) / 8 % 4, by omega⟩ : Fin 4) = ⟨n / 8 % 4, by omega⟩ := Fin.ext (by show (n + 1) / 8 % 4 = n / 8 % 4; omega)
      have e3 : headsAt m c (n + 1) = headsAt m c n := congrArg (headOf (m ((c : Thread nD τ).loc main_arg0)) (m ((c : Thread nD τ).loc main_arg1)) (m ((c : Thread nD τ).loc main_arg2))) e2
      rw [e1, e3]
      obtain ⟨t, rfl⟩ : ∃ t : Fin cfg0.N, t.val = n := ⟨⟨n, hn'⟩, rfl⟩
      exact carry_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (headsAt m c t.val) (8 * (t.val % 8)) (feeds_at m c t) (start m c t.val) (fun h d e => ih hn' h d e) h d e

/-- An entry of the block written at `t` is the outcome at the same place. -/
theorem point (c : Dev nD) (t : Fin cfg0.N) (y) : outAt m c t (start m c t.val) y
    = outcome (m ((c : Thread nD τ).loc main_arg0)) (m ((c : Thread nD τ).loc main_arg1)) (m ((c : Thread nD τ).loc main_arg2)) (((cfg0.win 9).blk t).view.emb y) := by
  rw [place]
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (headsAt m c t.val) (8 * (t.val % 8)) (feeds_at m c t) (start m c t.val) (fun h d e => start_at m c t.val t.isLt h d e) y).trans ?_
  have ht : t.val < 32 := lt_of_lt_of_eq t.isLt points
  have e1 : (⟨t.val / 8, by omega⟩ : Fin 4) = ⟨t.val / 8 % 4, by omega⟩ := Fin.ext (by show t.val / 8 = t.val / 8 % 4; omega)
  have e2 : (t.val % 8 * 512 + (y 1).val) / 64 = 8 * (t.val % 8) + (y 1).val / 64 := by omega
  have e3 : (⟨(t.val % 8 * 512 + (y 1).val) % 64, by omega⟩ : Fin 64) = ⟨(y 1).val % 64, by omega⟩ := Fin.ext (by show (t.val % 8 * 512 + (y 1).val) % 64 = (y 1).val % 64; omega)
  show (headOf (m ((c : Thread nD τ).loc main_arg0)) (m ((c : Thread nD τ).loc main_arg1)) (m ((c : Thread nD τ).loc main_arg2)) ⟨t.val / 8 % 4, _⟩ _).result (8 * (t.val % 8) + (y 1).val / 64) ⟨(y 1).val % 64, _⟩ ⟨(y 2).val % 128, _⟩
    = (headOf (m ((c : Thread nD τ).loc main_arg0)) (m ((c : Thread nD τ).loc main_arg1)) (m ((c : Thread nD τ).loc main_arg2)) ⟨t.val / 8, _⟩ _).result ((t.val % 8 * 512 + (y 1).val) / 64) ⟨(t.val % 8 * 512 + (y 1).val) % 64, _⟩ ⟨(y 2).val % 128, _⟩
  rw [e1, e2, e3]
  rfl

/-- After the last grid point the result is the outcome. -/
theorem final (c : Dev nD) : (dats m 0 c).arrAt 9 cfg0.N
    = outcome (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after_9]
  exact point m c t y

end Cert.Retention

end

end
-- ==== Proof.RetRun.lean ====
/-
The run of the retention reference: what its buffers hold before its loop, that the loop leaves all but the carried ones alone, and what the operations after it make of
the states that the loop collects.
-/
module

public import proofs.«01_k».proof.Proof.RetHeads

@[expose] public section

noncomputable section

namespace Cert.Retention.Ref

open Idealize.ShloMosaic Idealize.ShloMosaic.TcCoe Idealize.SL.Sem Idealize.ShloMosaic.StableHlo
open Cert.Reference8Ideal Cert.Reference8Ideal.Gen Cert.Reference8Ideal.Value

section Values

variable (rqk : FVec Ideal S16384x2048 .bf16) (pb : FVec Ideal S16384x6144 .bf16) (gain : FVec Ideal S1x1024 .f32)

/-- The queries by sequence, chunk, row and head. -/
def queries : FVec Ideal S4x64x64x8x128 .f32 :=
  shapeCast S4x64x64x8x128 (extractStridedSlice S16384x1024 ![0, 0] (extf .f32 rqk bitsLt_bf16_f32) slices_S16384x2048_S16384x1024_0_0) shapeCasts_S16384x1024_S4x64x64x8x128

/-- The keys likewise. -/
def keys : FVec Ideal S4x64x64x8x128 .f32 :=
  shapeCast S4x64x64x8x128 (extractStridedSlice S16384x1024 ![0, 1024] (extf .f32 rqk bitsLt_bf16_f32) slices_S16384x2048_S16384x1024_0_1024) shapeCasts_S16384x1024_S4x64x64x8x128

/-- The values likewise. -/
def vals : FVec Ideal S4x64x64x8x128 .f32 :=
  shapeCast S4x64x64x8x128 (extractStridedSlice S16384x1024 ![0, 0] (extf .f32 pb bitsLt_bf16_f32) slices_S16384x6144_S16384x1024_0_0) shapeCasts_S16384x1024_S4x64x64x8x128

/-- The gates, one row per token. -/
def gates : FVec Ideal S16384x1024 .f32 := extractStridedSlice S16384x1024 ![0, 1024] (extf .f32 pb bitsLt_bf16_f32) slices_S16384x6144_S16384x1024_0_1024

/-- The scores within each chunk, decayed. -/
def scores : FVec Ideal S4x64x8x64x64 .f32 :=
  mulf (Host.dotGeneral dot_S4x64x64x8x128_S4x64x64x8x128_S4x64x8x64x64_4_4_2_2_013_013 none (queries rqk) (keys rqk))
    (broadcastInDim S4x64x8x64x64 ![0, 1, 2, 3, 4] bcast_S1x1x8x64x64_S4x64x8x64x64_0_1_2_3_4 (broadcastInDim S1x1x8x64x64 ![2, 3, 4] bcast_S8x64x64_S1x1x8x64x64_2_3_4 pairTable))

/-- The part of each row that comes from its own chunk. -/
def within : FVec Ideal S4x64x64x8x128 .f32 :=
  transpose S4x64x64x8x128 [0, 1, 4, 2, 3] (Host.dotGeneral dot_S4x64x64x8x128_S4x64x8x64x64_S4x64x8x128x64_2_4_4_3_013_012 none (vals pb) (scores rqk))
    transposes_S4x64x8x128x64_S4x64x64x8x128_0_1_4_2_3

/-- What each chunk adds to the state: its keys, decayed to its end, against its values. -/
def added : FVec Ideal S64x4x8x128x128 .f32 :=
  Host.dotGeneral dot_S4x64x64x8x128_S4x64x64x8x128_S64x4x8x128x128_2_2_4_4_103_103 none
    (mulf (keys rqk) (broadcastInDim S4x64x64x8x128 ![0, 1, 2, 3, 4] bcast_S1x1x64x8x1_S4x64x64x8x128_0_1_2_3_4
      (broadcastInDim S1x1x64x8x1 ![2, 3, 4] bcast_S64x8x1_S1x1x64x8x1_2_3_4 (broadcastInDim S64x8x1 ![0, 1] bcast_S64x8_S64x8x1_0_1 endTable)))) (vals pb)

end Values

section Finish

variable (inside q : FVec Ideal S4x64x64x8x128 .f32) (start : FVec Ideal S64x8 .f32) (before : FVec Ideal S64x4x8x128x128 .f32)
variable (z : FVec Ideal S16384x1024 .f32) (gain : FVec Ideal S1x1024 .f32)

/-- The rows before the group norm: the part from their own chunk, and the decayed queries against the states before the chunks. -/
def mixed : FVec Ideal S4x4096x8x128 .f32 :=
  shapeCast S4x4096x8x128 (addf inside (transpose S4x64x64x8x128 [0, 1, 4, 2, 3]
    (Host.dotGeneral dot_S64x4x8x128x128_S4x64x64x8x128_S4x64x8x128x64_3_4_4_2_102_013 none before
      (mulf q (broadcastInDim S4x64x64x8x128 ![0, 1, 2, 3, 4] bcast_S1x1x64x8x1_S4x64x64x8x128_0_1_2_3_4
        (broadcastInDim S1x1x64x8x1 ![2, 3, 4] bcast_S64x8x1_S1x1x64x8x1_2_3_4 (broadcastInDim S64x8x1 ![0, 1] bcast_S64x8_S64x8x1_0_1 start)))))
    transposes_S4x64x8x128x64_S4x64x64x8x128_0_1_4_2_3)) shapeCasts_S4x64x64x8x128_S4x4096x8x128

/-- The means of `x` over its lanes. -/
def means (x : FVec Ideal S4x4096x8x128 .f32) : FVec Ideal S4x4096x8x1 .f32 :=
  Host.divf (broadcastInDim S4x4096x8x1 ![0, 1, 2] bcast_S4x4096x8_S4x4096x8x1_0_1_2
      (Host.reduceAdd x (constant (F := Ideal) S_ .f32 0x00000000#32) reducesTo_S4x4096x8x128_S4x4096x8_d3 h_S_))
    (broadcastInDim S4x4096x8x1 ![] bcast_S_S4x4096x8x1 (constant (F := Ideal) S_ .f32 0x43000000#32))

/-- `x` less its means. -/
def centred (x : FVec Ideal S4x4096x8x128 .f32) : FVec Ideal S4x4096x8x128 .f32 :=
  subf x (broadcastInDim S4x4096x8x128 ![0, 1, 2, 3] bcast_S4x4096x8x1_S4x4096x8x128_0_1_2_3 (means x))

/-- `x` normalised over its lanes. -/
def normed (x : FVec Ideal S4x4096x8x128 .f32) : FVec Ideal S4x4096x8x128 .f32 :=
  mulf (centred x) (broadcastInDim S4x4096x8x128 ![0, 1, 2, 3] bcast_S4x4096x8x1_S4x4096x8x128_0_1_2_3
    (Host.rsqrt (addf (means (mulf (centred x) (centred x))) (broadcastInDim S4x4096x8x1 ![] bcast_S_S4x4096x8x1 (constant (F := Ideal) S_ .f32 0x358637BD#32)))))

/-- The gates by sequence and position. -/
def gateRows : FVec Ideal S4x4096x1024 .f32 := shapeCast S4x4096x1024 z shapeCasts_S16384x1024_S4x4096x1024

/-- The result: the normalised rows, times the gain, times the gates and their logistics. -/
def finish (x : FVec Ideal S4x4096x8x128 .f32) : FVec Ideal S4x4096x1024 .bf16 :=
  truncf .bf16 (mulf
    (mulf (shapeCast S4x4096x1024 (normed x) shapeCasts_S4x4096x8x128_S4x4096x1024)
      (broadcastInDim S4x4096x1024 ![0, 1, 2] bcast_S1x1x1024_S4x4096x1024_0_1_2 (broadcastInDim S1x1x1024 ![2] bcast_S1024_S1x1x1024_2
        (shapeCast S1024 gain shapeCasts_S1x1024_S1024))))
    (mulf (gateRows z) (Host.divf (broadcastInDim S4x4096x1024 ![] bcast_S_S4x4096x1024 (constant (F := Ideal) S_ .f32 0x3F800000#32))
      (addf (broadcastInDim S4x4096x1024 ![] bcast_S_S4x4096x1024 (constant (F := Ideal) S_ .f32 0x3F800000#32)) (Host.exp (Host.negf (gateRows z)))))))
    bitsLt_bf16_f32

end Finish

variable (m : (ℓ : Loc nD τ sig) → Buf (Elt Ideal) ℓ) (c : Dev nD)

/-- What the buffers hold before the loop: the arguments, and what the operations before it make of them. -/
structure Entry (X : Valuation τ sig (Elt Ideal)) : Prop where
  arg0 : X (Proc.devRef .tc main_arg0) = m (c.tc.loc main_arg0)
  arg1 : X (Proc.devRef .tc main_arg1) = m (c.tc.loc main_arg1)
  arg2 : X (Proc.devRef .tc main_arg2) = m (c.tc.loc main_arg2)
  gates : X (Proc.devRef .tc main_v5) = gates (m (c.tc.loc main_arg1))
  start : X (Proc.devRef .tc main_v42) = startTable
  queries : X (Proc.devRef .tc main_v46) = queries (m (c.tc.loc main_arg0))
  within : X (Proc.devRef .tc main_v54) = within (m (c.tc.loc main_arg0)) (m (c.tc.loc main_arg1))

set_option maxRecDepth 65536 in
set_option maxHeartbeats 2000000 in
/-- The entry's buffers. -/
theorem entry : Entry m c (entryContents preI m c) := by
  constructor <;> (simp only [entryContents, afterL_cons, afterL_nil]; after_reads_simp) <;> rfl

/-- A buffer that no operation of the loop writes keeps its contents through the loop. -/
theorem kept (b : Ref sig .tc) (hb : b ∉ condOps_W ++ while0Ops0_W ++ while0Ops0_1_W ++ while0Ops0_2_W ++ while0Ops0_3_W) (k : ℕ) :
    atK m k c (Proc.devRef .tc b) = entryContents preI m c (Proc.devRef .tc b) := by
  simp only [List.mem_append, not_or] at hb
  obtain ⟨⟨⟨⟨hc, h0⟩, h1⟩, h2⟩, h3⟩ := hb
  induction k with
  | zero => rfl
  | succ k ih =>
    rw [show atK m (k + 1) c = afterL bodyI (after condOps (atK m k c)) from rfl]
    simp only [afterL_cons, afterL_nil]
    rw [after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc, ih]
    rfl

/-- So it does through the condition after the last trip. -/
theorem kept_cond (b : Ref sig .tc) (hb : b ∉ condOps_W ++ while0Ops0_W ++ while0Ops0_1_W ++ while0Ops0_2_W ++ while0Ops0_3_W) (k : ℕ) :
    after condOps (atK m k c) (Proc.devRef .tc b) = entryContents preI m c (Proc.devRef .tc b) :=
  (after_of_writes_sub _ _ condOps_writes fun h => hb (by simp only [List.mem_append]; tauto)).trans (kept m c b hb k)

/-- So after the loop these buffers are as before it. -/
theorem leave_cond (k : ℕ) : Entry m c (after condOps (atK m k c)) where
  arg0 := (kept_cond m c main_arg0 (by decide) k).trans (entry m c).arg0
  arg1 := (kept_cond m c main_arg1 (by decide) k).trans (entry m c).arg1
  arg2 := (kept_cond m c main_arg2 (by decide) k).trans (entry m c).arg2
  gates := (kept_cond m c main_v5 (by decide) k).trans (entry m c).gates
  start := (kept_cond m c main_v42 (by decide) k).trans (entry m c).start
  queries := (kept_cond m c main_v46 (by decide) k).trans (entry m c).queries
  within := (kept_cond m c main_v54 (by decide) k).trans (entry m c).within

section Post

variable (X : Valuation τ sig (Elt Ideal))

set_option maxRecDepth 65536 in
set_option maxHeartbeats 4000000 in
/-- The result of the operations after the loop, of the contents `X` that they find. -/
theorem post_result : after hostOps0_1 X (Proc.devRef .tc main_v103)
    = finish (X (Proc.devRef .tc main_v5)) (X (Proc.devRef .tc main_arg2)) (mixed (X (Proc.devRef .tc main_v54)) (X (Proc.devRef .tc main_v46)) (X (Proc.devRef .tc main_v42)) (X (Proc.devRef .tc main_v62_4))) := by
  after_reads_simp
  rfl

set_option maxRecDepth 65536 in
/-- They write no argument. -/
theorem post_arg0 : after hostOps0_1 X (Proc.devRef .tc main_arg0) = X (Proc.devRef .tc main_arg0) := by
  after_reads_simp

set_option maxRecDepth 65536 in
/-- Nor the second. -/
theorem post_arg1 : after hostOps0_1 X (Proc.devRef .tc main_arg1) = X (Proc.devRef .tc main_arg1) := by
  after_reads_simp

set_option maxRecDepth 65536 in
/-- Nor the third. -/
theorem post_arg2 : after hostOps0_1 X (Proc.devRef .tc main_arg2) = X (Proc.devRef .tc main_arg2) := by
  after_reads_simp

end Post

/-- The carried buffers before trip `n`. -/
abbrev before (n : ℕ) : Valuation τ sig (Elt Ideal) := STEP^[n] (entryContents preI m c)

/-- The reference's result: the operations after the loop on the states that 64 trips collect. -/
def result : FVec Ideal S4x4096x1024 .bf16 :=
  finish (gates (m (c.tc.loc main_arg1))) (m (c.tc.loc main_arg2))
    (mixed (within (m (c.tc.loc main_arg0)) (m (c.tc.loc main_arg1))) (queries (m (c.tc.loc main_arg0))) startTable (before m c 64 (Proc.devRef .tc main_v62_4)))

/-- What the run leaves in the result is this. -/
theorem last_result : finalContents condOps preI bodyI postI 64 m c (Proc.devRef .tc main_v103) = result m c := by
  unfold finalContents
  rw [afterL_cons, afterL_nil]
  refine (post_result _).trans ?_
  have L := leave_cond m c 64
  rw [L.gates, L.arg2, L.within, L.queries, L.start, (cond_keeps (atK m 64 c) main_v62_4 (by decide)).trans (atK_agree m c 64 main_v62_4 (by decide))]
  rfl

/-- The arguments stay. -/
theorem last_arg0 : finalContents condOps preI bodyI postI 64 m c (Proc.devRef .tc main_arg0) = m (c.tc.loc main_arg0) := by
  unfold finalContents
  rw [afterL_cons, afterL_nil]
  exact (post_arg0 _).trans (leave_cond m c 64).arg0

/-- The second too. -/
theorem last_arg1 : finalContents condOps preI bodyI postI 64 m c (Proc.devRef .tc main_arg1) = m (c.tc.loc main_arg1) := by
  unfold finalContents
  rw [afterL_cons, afterL_nil]
  exact (post_arg1 _).trans (leave_cond m c 64).arg1

/-- And the third. -/
theorem last_arg2 : finalContents condOps preI bodyI postI 64 m c (Proc.devRef .tc main_arg2) = m (c.tc.loc main_arg2) := by
  unfold finalContents
  rw [afterL_cons, afterL_nil]
  exact (post_arg2 _).trans (leave_cond m c 64).arg2

set_option maxRecDepth 65536 in
/-- Every run of the reference ends with this result, its arguments unchanged. -/
theorem run (ρ : Dev nD → PrngReg) :
    θ_run (defs (F := Ideal)) (onTc (τ := τ) (main (F := Ideal))) ⟨m, fun _ => 0, ρ⟩ fun r => ∀ c : Dev nD,
      r.2.mem (c.tc.loc main_v103) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun _ h c => ⟨(h c main_v103 rfl).trans (last_result m c), (h c main_arg0 rfl).trans (last_arg0 m c), (h c main_arg1 rfl).trans (last_arg1 m c),
    (h c main_arg2 rfl).trans (last_arg2 m c)⟩) (run_fold m ρ)

end Cert.Retention.Ref

end
-- ==== Proof.RetRef.lean ====
module

public import proofs.«01_k».proof.Proof.RetRun
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Retention.Ref

open Cert.Reference8Ideal Cert.Reference8Ideal.Gen Cert.Reference8Ideal.Value

/-- A trip's number read back from its word. -/
theorem word_toInt : ∀ j : Fin 64, (BitVec.ofNat 32 j.val).toInt = (j.val : ℤ) := by decide

/-- Where a trip's slices fit. -/
theorem fits (j : Fin 64) : S64x4x8x128x128.Slices ![j.val, 0, 0, 0, 0] S1x4x8x128x128 := ⟨rfl, by
  intro a; match a with
  | ⟨0, _⟩ => show j.val + 1 ≤ 64; omega
  | ⟨1, _⟩ => exact le_refl 4
  | ⟨2, _⟩ => exact le_refl 8
  | ⟨3, _⟩ => exact le_refl 128
  | ⟨4, _⟩ => exact le_refl 128⟩

/-- A chunk's part taken out of an array whose first axis is the chunks. -/
theorem slice_at (x : Vec Ideal S64x4x8x128x128 .f32) (j : Fin 64) (start : Fin 5 → ℤ) (hs : ∀ a, start a = ((![j.val, 0, 0, 0, 0] : Fin 5 → ℕ) a : ℤ))
    (b : Fin 4) (h : Fin 8) (d e : Fin 128) :
    shapeCast S4x8x128x128 (Host.dynamicSlice S1x4x8x128x128 x start sliceFits_S64x4x8x128x128_S1x4x8x128x128) shapeCasts_S1x4x8x128x128_S4x8x128x128 (ix4 b h d e)
      = x (ix5 j b h d e) := by
  rw [WordCmp.dynamicSlice_eq_extract S1x4x8x128x128 x start _ _ (fits j) hs]
  pointwise

/-- The start of a trip's slices. -/
theorem start_eq (j : Fin 64) : ∀ a : Fin 5, (((![(constantI S_ 32 (BitVec.ofNat 32 j.val) : IVec S_ 32), constantI S_ 32 0#32, constantI S_ 32 0#32, constantI S_ 32 0#32, constantI S_ 32 0#32] : Fin 5 → IVec S_ 32)) a (Shape.Idx.first h_S_)).toInt
    = ((![j.val, 0, 0, 0, 0] : Fin 5 → ℕ) a : ℤ) := by
  intro a
  match a with
  | ⟨0, _⟩ => exact word_toInt j
  | ⟨1, _⟩ => rfl
  | ⟨2, _⟩ => rfl
  | ⟨3, _⟩ => rfl
  | ⟨4, _⟩ => rfl

/-- A chunk's part put into an array whose first axis is the chunks. -/
theorem update_at (x : Vec Ideal S64x4x8x128x128 .f32) (u : Vec Ideal S4x8x128x128 .f32) (j : Fin 64) (start : Fin 5 → ℤ)
    (hs : ∀ a, start a = ((![j.val, 0, 0, 0, 0] : Fin 5 → ℕ) a : ℤ)) (n : Fin 64) (b : Fin 4) (h : Fin 8) (d e : Fin 128) :
    Host.dynamicUpdateSlice x (broadcastInDim S1x4x8x128x128 ![1, 2, 3, 4] bcast_S4x8x128x128_S1x4x8x128x128_1_2_3_4 u) start updateFits_S64x4x8x128x128_S1x4x8x128x128 (ix5 n b h d e)
      = if n = j then u (ix4 b h d e) else x (ix5 n b h d e) := by
  rw [WordCmp.dynamicUpdateSlice_eq_update x _ start _ _ (fits j) hs]
  pointwise
  by_cases hn : n = j
  · rw [if_pos hn, dif_pos (by rw [hn]; omega)]
  · have : n.val ≠ j.val := fun hv => hn (Fin.ext hv)
    rw [if_neg hn, dif_neg (by omega)]

section Arguments

variable (rqk : Vec Ideal S16384x2048 .bf16) (pb : Vec Ideal S16384x6144 .bf16) (gain : Vec Ideal S1x1024 .f32)
variable (n : Fin 64) (b : Fin 4) (r : Fin 64) (h : Fin 8) (d e : Fin 128)

/-- The row the heads read, with no wrap. -/
theorem row_eq : rowAt b n.val r = ⟨b.val * 4096 + n.val * 64 + r.val, by omega⟩ := Fin.ext (Nat.mod_eq_of_lt (by omega))

/-- The chunked queries are the heads'. -/
theorem q_head : queries rqk (ix5 b n r h d) = (headOf rqk pb gain b h).q n.val r d := by
  show _ = rqk (ix2 (rowAt b n.val r) _)
  rw [row_eq]
  pointwise [queries]

/-- The chunked keys are the heads'. -/
theorem k_head : keys rqk (ix5 b n r h d) = (headOf rqk pb gain b h).k n.val r d := by
  show _ = rqk (ix2 (rowAt b n.val r) _)
  rw [row_eq]
  pointwise [keys]

/-- The chunked values are the heads'. -/
theorem v_head : vals pb (ix5 b n r h d) = (headOf rqk pb gain b h).v n.val r d := by
  show _ = pb (ix2 (rowAt b n.val r) _)
  rw [row_eq]
  pointwise [vals]

/-- The gates by sequence and position are the heads'. -/
theorem z_head : gateRows (gates pb) (ix3 b ⟨n.val * 64 + r.val, by omega⟩ ⟨h.val * 128 + d.val, by omega⟩) = (headOf rqk pb gain b h).z n.val r d := by
  show _ = pb (ix2 (rowAt b n.val r) _)
  rw [row_eq]
  pointwise [gateRows, gates]
  exact congrArg pb (congrArg (ix2 · _) (Fin.ext (Nat.add_assoc _ _ _).symm))

/-- What a chunk adds to the state, by the heads' keys and values. -/
theorem added_head : added rqk pb (ix5 n b h d e)
    = ∑ x, (headOf rqk pb gain b h).k n.val x d * (headOf rqk pb gain b h).toEnd x * (headOf rqk pb gain b h).v n.val x e := by
  have w : added rqk pb (ix5 n b h d e) = ∑ x, keys rqk (ix5 b n x h d) * endTable (ix2 x h) * vals pb (ix5 b n x h e) := by
    pointwise [added]
  rw [w]
  refine Finset.sum_congr rfl fun x _ => ?_
  rw [k_head rqk pb gain, v_head rqk pb gain]
  rfl

/-- The part of a row from its own chunk, by the heads' queries, keys and values. -/
theorem inner_head : within rqk pb (ix5 b n r h e)
    = ∑ x, (∑ d, (headOf rqk pb gain b h).q n.val r d * (headOf rqk pb gain b h).k n.val x d) * (headOf rqk pb gain b h).pair r x * (headOf rqk pb gain b h).v n.val x e := by
  have w : within rqk pb (ix5 b n r h e)
      = ∑ x, vals pb (ix5 b n x h e) * ((∑ d, queries rqk (ix5 b n r h d) * keys rqk (ix5 b n x h d)) * pairTable (ix3 h r x)) := by
    pointwise [within, scores]
  rw [w]
  refine Finset.sum_congr rfl fun x _ => ?_
  rw [v_head rqk pb gain, mul_comm]
  refine congrArg (· * _) (congrArg (· * _) (Finset.sum_congr rfl fun d _ => ?_))
  rw [q_head rqk pb gain, k_head rqk pb gain]

end Arguments

/-- The state that the buffers `V` carry. -/
abbrev stateIn (V : Valuation τ sig (Elt Ideal)) : FVec Ideal S4x8x128x128 .f32 := V (Proc.devRef .tc main_v62_3)

/-- The states that the buffers `V` have collected. -/
abbrev statesIn (V : Valuation τ sig (Elt Ideal)) : FVec Ideal S64x4x8x128x128 .f32 := V (Proc.devRef .tc main_v62_4)

section Loop

variable (m : (ℓ : Loc nD τ sig) → Buf (Elt Ideal) ℓ) (c : Dev nD)

/-- The carried buffers `V` before trip `j`: what the chunks add, the decay over a chunk and the trip's number. -/
structure Carries (V : Valuation τ sig (Elt Ideal)) (j : ℕ) : Prop where
  adds : V (Proc.devRef .tc main_v62_0) = added (m (c.tc.loc main_arg0)) (m (c.tc.loc main_arg1))
  whole : V (Proc.devRef .tc main_v62_1) = wholeTable
  trip : V (Proc.devRef .tc main_v62_2) = constantI S_ 32 (BitVec.ofNat 32 j)

set_option maxRecDepth 65536 in
set_option maxHeartbeats 1000000 in
/-- Before the loop they hold these. -/
theorem carries_first : Carries m c (before m c 0) 0 := by
  constructor <;> (show entryContents preI m c _ = _; simp only [entryContents, afterL_cons, afterL_nil]; after_reads_simp) <;> rfl

set_option maxRecDepth 65536 in
/-- The state before the first trip is zero. -/
theorem state_first (b : Fin 4) (h : Fin 8) (d e : Fin 128) : stateIn (before m c 0) (ix4 b h d e) = 0 := by
  have w : stateIn (before m c 0) = broadcastInDim S4x8x128x128 ![] bcast_S_S4x8x128x128 (constant (F := Ideal) S_ .f32 0x00000000#32) := by
    show entryContents preI m c _ = _
    simp only [entryContents, afterL_cons, afterL_nil]
    after_reads_simp
    rfl
  rw [w]
  exact Ideal.ofBits_zero .f32

/-- A trip from these leaves these. -/
theorem Carries.next {V : Valuation τ sig (Elt Ideal)} {j : ℕ} (a : Carries m c V j) : Carries m c (STEP V) (j + 1) where
  adds := (STEP_main_v62_0 V).trans a.adds
  whole := (STEP_main_v62_1 V).trans a.whole
  trip := (STEP_main_v62_2 V).trans (by
    unfold step_main_v62_2
    rw [a.trip]
    funext i
    exact (BitVec.ofNat_add j 1).symm)

/-- They hold them before every trip. -/
theorem carries (n : ℕ) : Carries m c (before m c n) n := by
  induction n with
  | zero => exact carries_first m c
  | succ n ih =>
    unfold before
    rw [Function.iterate_succ_apply']
    exact ih.next

/-- The state a trip leaves: the one it found decayed over the chunk, and what the chunk adds. -/
theorem state_trip {V : Valuation τ sig (Elt Ideal)} {j : Fin 64} (a : Carries m c V j.val) (b : Fin 4) (h : Fin 8) (d e : Fin 128) :
    stateIn (STEP V) (ix4 b h d e)
      = stateIn V (ix4 b h d e) * wholeTable (ix1 h)
        + added (m (c.tc.loc main_arg0)) (m (c.tc.loc main_arg1)) (ix5 j b h d e) := by
  rw [show stateIn (STEP V) = step_main_v62_3 V from STEP_main_v62_3 V]
  unfold step_main_v62_3
  rw [a.whole, a.adds, a.trip]
  refine congrArg₂ (· + ·) (congrArg ((stateIn V (ix4 b h d e) : EReal) * ·) ?_) (slice_at _ j _ (start_eq j) b h d e)
  pointwise

/-- The states a trip leaves collected: the one it found at its number, the earlier ones elsewhere. -/
theorem states_trip {V : Valuation τ sig (Elt Ideal)} {j : Fin 64} (a : Carries m c V j.val) (x : Fin 64) (b : Fin 4) (h : Fin 8) (d e : Fin 128) :
    statesIn (STEP V) (ix5 x b h d e)
      = if x = j then stateIn V (ix4 b h d e)
        else statesIn V (ix5 x b h d e) := by
  rw [show statesIn (STEP V) = step_main_v62_4 V from STEP_main_v62_4 V]
  unfold step_main_v62_4
  rw [a.trip]
  exact update_at _ _ j _ (start_eq j) x b h d e

/-- The head `h` of sequence `b` of the arguments in memory. -/
abbrev headAt (b : Fin 4) (h : Fin 8) : Head := headOf (m (c.tc.loc main_arg0)) (m (c.tc.loc main_arg1)) (m (c.tc.loc main_arg2)) b h

/-- Before trip `n` the loop holds the heads' states. -/
theorem state_before (n : ℕ) (hn : n ≤ 64) (b : Fin 4) (h : Fin 8) (d e : Fin 128) :
    stateIn (before m c n) (ix4 b h d e) = (headAt m c b h).state n d e := by
  induction n with
  | zero => exact state_first m c b h d e
  | succ n ih =>
    unfold before
    rw [Function.iterate_succ_apply']
    refine (state_trip m c (j := ⟨n, hn⟩) (carries m c n) b h d e).trans ?_
    rw [added_head _ _ (m (c.tc.loc main_arg2))]
    exact congrArg (· * _ + _) (ih (by omega))

/-- Before trip `n` the states before the chunks below `n` are collected. -/
theorem states_before (n : ℕ) (hn : n ≤ 64) (x : Fin 64) (hx : x.val < n) (b : Fin 4) (h : Fin 8) (d e : Fin 128) :
    statesIn (before m c n) (ix5 x b h d e) = (headAt m c b h).state x.val d e := by
  induction n with
  | zero => exact absurd hx (Nat.not_lt_zero _)
  | succ n ih =>
    unfold before
    rw [Function.iterate_succ_apply']
    refine (states_trip m c (j := ⟨n, hn⟩) (carries m c n) x b h d e).trans ?_
    by_cases hj : x = ⟨n, hn⟩
    · rw [if_pos hj, hj]
      exact state_before m c n (by omega) b h d e
    · rw [if_neg hj]
      have : x.val ≠ n := fun hv => hj (Fin.ext hv)
      exact ih (by omega) (by omega)

/-- The rows before the group norm. -/
def rows : FVec Ideal S4x4096x8x128 .f32 :=
  mixed (within (m (c.tc.loc main_arg0)) (m (c.tc.loc main_arg1))) (queries (m (c.tc.loc main_arg0))) startTable (statesIn (before m c 64))

end Loop

section Norm

variable (x : FVec Ideal S4x4096x8x128 .f32) (b : Fin 4) (p : Fin 4096) (h : Fin 8) (e : Fin 128)

/-- The rows before the group norm, entry by entry. -/
theorem mixed_at (inside q : FVec Ideal S4x64x64x8x128 .f32) (start : FVec Ideal S64x8 .f32) (state : FVec Ideal S64x4x8x128x128 .f32) (n r : Fin 64) :
    mixed inside q start state (ix4 b ⟨n.val * 64 + r.val, by omega⟩ h e)
      = inside (ix5 b n r h e) + ∑ d, state (ix5 n b h d e) * (q (ix5 b n r h d) * start (ix2 r h)) := by
  pointwise [mixed]

/-- The means, entry by entry. -/
theorem means_at : means x (ix4 b p h 0) = Ideal.div (∑ e, x (ix4 b p h e)) (Ideal.ofBits .f32 0x43000000#32) := by
  pointwise [means]

/-- The rows less their means, entry by entry. -/
theorem centred_at : centred x (ix4 b p h e) = x (ix4 b p h e) - means x (ix4 b p h 0) := by
  pointwise [centred]

/-- The normalised rows, entry by entry. -/
theorem normed_at : normed x (ix4 b p h e)
    = centred x (ix4 b p h e) * Ideal.rsqrt (means (mulf (centred x) (centred x)) (ix4 b p h 0) + Ideal.ofBits .f32 0x358637BD#32) := by
  pointwise [normed]

/-- The result, entry by entry. -/
theorem finish_at (z : FVec Ideal S16384x1024 .f32) (gain : FVec Ideal S1x1024 .f32) :
    finish z gain x (ix3 b p ⟨h.val * 128 + e.val, by omega⟩)
      = normed x (ix4 b p h e) * gain (ix2 0 ⟨h.val * 128 + e.val, by omega⟩)
        * (gateRows z (ix3 b p ⟨h.val * 128 + e.val, by omega⟩) * Ideal.logistic (gateRows z (ix3 b p ⟨h.val * 128 + e.val, by omega⟩))) := by
  unfold Ideal.logistic
  pointwise [finish]

end Norm

section Result

variable (m : (ℓ : Loc nD τ sig) → Buf (Elt Ideal) ℓ) (c : Dev nD) (n : Fin 64) (b : Fin 4) (r : Fin 64) (h : Fin 8) (e : Fin 128)

/-- The rows are the heads'. -/
theorem rows_head : rows m c (ix4 b ⟨n.val * 64 + r.val, by omega⟩ h e) = (headAt m c b h).mix n.val r e := by
  refine (mixed_at b h e _ _ _ _ n r).trans ?_
  rw [inner_head _ _ (m (c.tc.loc main_arg2))]
  refine congrArg (_ + ·) (Finset.sum_congr rfl fun d _ => ?_)
  rw [states_before m c 64 le_rfl n n.isLt, q_head _ (m (c.tc.loc main_arg1)) (m (c.tc.loc main_arg2)), mul_comm]
  rfl

/-- Their means are the heads'. -/
theorem means_head : means (rows m c) (ix4 b ⟨n.val * 64 + r.val, by omega⟩ h 0) = (headAt m c b h).mean n.val r := by
  rw [means_at]
  simp only [rows_head]
  rfl

/-- So are the rows less their means. -/
theorem centred_head : centred (rows m c) (ix4 b ⟨n.val * 64 + r.val, by omega⟩ h e) = (headAt m c b h).mix n.val r e - (headAt m c b h).mean n.val r := by
  rw [centred_at, rows_head, means_head]

/-- So are the variances. -/
theorem variance_head : means (mulf (centred (rows m c)) (centred (rows m c))) (ix4 b ⟨n.val * 64 + r.val, by omega⟩ h 0) = (headAt m c b h).variance n.val r := by
  rw [means_at]
  refine congrArg (Ideal.div · _) (Finset.sum_congr rfl fun e _ => ?_)
  exact congrArg₂ (· * ·) (centred_head m c n b r h e) (centred_head m c n b r h e)

/-- The reference's result at a chunk's row and a head's lane is the head's. -/
theorem result_head : Ref.result m c (ix3 b ⟨n.val * 64 + r.val, by omega⟩ ⟨h.val * 128 + e.val, by omega⟩) = (headAt m c b h).result n.val r e := by
  refine (finish_at (rows m c) b ⟨n.val * 64 + r.val, by omega⟩ h e _ _).trans ?_
  rw [normed_at, centred_head, variance_head, z_head (m (c.tc.loc main_arg0)) (m (c.tc.loc main_arg1)) (m (c.tc.loc main_arg2))]
  rfl

/-- The reference's result is the plain one of its arguments. -/
theorem reference_eq : Ref.result m c = outcome (m (c.tc.loc main_arg0)) (m (c.tc.loc main_arg1)) (m (c.tc.loc main_arg2)) := by
  funext y
  have h1 : (y 1).val < 4096 := (y 1).isLt
  have h2 : (y 2).val < 1024 := (y 2).isLt
  refine Eq.trans (congrArg (Ref.result m c) ?_) (result_head m c ⟨(y 1).val / 64, by omega⟩ (y 0) ⟨(y 1).val % 64, by omega⟩ ⟨(y 2).val / 128, by omega⟩ ⟨(y 2).val % 128, by omega⟩)
  refine (eq_ix3 y).trans ?_
  congr 1
  · exact Fin.ext (by show (y 1).val = (y 1).val / 64 * 64 + (y 1).val % 64; omega)
  · exact Fin.ext (by show (y 2).val = (y 2).val / 128 * 128 + (y 2).val % 128; omega)

end Result

end Cert.Retention.Ref

end

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.RopeProj
public import proofs.«01_k».proof.Proof.AttProj
public import proofs.«01_k».proof.Proof.ValueProj
public import proofs.«01_k».proof.Proof.RetProj
public import proofs.«01_k».proof.Proof.IndexProj
public import proofs.«01_k».proof.Proof.Output
public import proofs.«01_k».proof.Proof.Norm
public import proofs.«01_k».proof.Proof.RetSame
public import proofs.«01_k».proof.Proof.RetValue
public import proofs.«01_k».proof.Proof.RetRef
public import Idealize.ShloMosaic.Adequacy
public import Idealize.ShloMosaic.Init
public import Idealize.ShloMosaic.Lib.Quiescent

@[expose] public section

noncomputable section

namespace Cert.Proof

open Idealize.ShloMosaic Idealize.SL.Sem

/-- The plain program of the rotary query and key projection ends with its arguments as they were and every semaphore at zero. -/
theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel of the rotary query and key projection leaves the array that the plain program leaves. -/
theorem value : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v71_eq]
  simp only [hagree c]
  exact (Cert.RopeProj.final m c).symm

/-- The plain program of the projection to attention queries, keys, gate and indexer queries ends with its arguments as they were and every semaphore at zero. -/
theorem reference2_quiet : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the kernel of the projection to attention queries, keys, gate and indexer queries leaves the array that the plain program leaves. -/
theorem value2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v12_eq]
  simp only [hagree c]
  exact (Cert.AttProj.final m c).symm

/-- The plain program of the projection to transposed attention values ends with its arguments as they were and every semaphore at zero. -/
theorem reference3_quiet : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the kernel of the projection to transposed attention values leaves the array that the plain program leaves. -/
theorem value3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, Cert.Reference3Ideal.Read.val_main_v9_eq]
  simp only [hagree c]
  exact (Cert.ValueProj.final m c).symm

/-- The plain program of the projection to retention values and gates ends with its arguments as they were and every semaphore at zero. -/
theorem reference4_quiet : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the kernel of the projection to retention values and gates leaves the array that the plain program leaves. -/
theorem value4 : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, Cert.Reference4Ideal.Read.val_main_v4_eq]
  simp only [hagree c]
  exact (Cert.RetProj.final m c).symm

/-- The plain program of the projection to indexer keys and head weights ends with its arguments as they were and every semaphore at zero. -/
theorem reference5_quiet : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Over the extended reals the kernel of the projection to indexer keys and head weights leaves the array that the plain program leaves. -/
theorem value5 : algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ⟨?_, ?_, (h c).2.2⟩) (Cert.Reference5Ideal.Value.run (F := Ideal) m' ρ')
  · rw [(h c).1, Cert.Reference5Ideal.Read.val_main_v26_eq]
    simp only [hagree c]
    exact (Cert.IndexProj.keyFinal m c).symm
  · rw [(h c).2.1, Cert.Reference5Ideal.Read.val_main_v27_eq]
    simp only [hagree c]
    exact (Cert.IndexProj.weightFinal m c).symm

/-- The plain program of the output step ends with its arguments as they were and every semaphore at zero. -/
theorem reference6_quiet : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals the kernel of the output step leaves the array that the plain program leaves. -/
theorem value6 : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1, Cert.Reference6Ideal.Read.val_main_v55_eq]
  simp only [hagree c]
  exact (Cert.Output.final m c).symm

/-- The plain program of the first norm ends with its arguments as they were and every semaphore at zero. -/
theorem reference7_quiet : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Over the extended reals the kernel of the first norm leaves the array that the plain program leaves. -/
theorem value7 : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1, Cert.Reference7Ideal.Read.val_main_v15_eq]
  simp only [hagree c]
  exact (Cert.Norm.final m c).symm

/-- The kernel of the retention ends with its arguments as they were and every semaphore at zero. -/
theorem kernel8_quiet : quiescent_Kernel8 := fun m ρ _ => Cert.Retention.frame_kernel (F := Bits) m ρ

/-- So it does over the extended reals. -/
theorem kernel8_ideal_quiet : quiescent_Kernel8Ideal := fun m ρ _ => Cert.Retention.frame (F := Ideal) m ρ

/-- The plain program of the retention ends with its arguments as they were and every semaphore at zero. -/
theorem reference8_quiet : quiescent_Reference8Ideal := fun m ρ _ =>
  (θ_run Cert.Reference8Ideal.defs _ _).mono (fun r h => ⟨fun c => (h c).2, sem_eq_zero_of_no_sems (by decide) r.2⟩)
    (Cert.Retention.Ref.run m ρ)

/-- Over the extended reals the kernel of the retention leaves the array that the plain program leaves. -/
theorem value8 : algebraic_Kernel8Ideal_Reference8Ideal := by
  intro m ρ m' ρ' _ hagree
  refine ⟨fun c => Cert.Retention.outcome (m (c.tc.loc Cert.Kernel8Ideal.main_arg0)) (m (c.tc.loc Cert.Kernel8Ideal.main_arg1)) (m (c.tc.loc Cert.Kernel8Ideal.main_arg2)), ?_, ?_⟩
  · exact (θ_run Cert.Kernel8Ideal.defs _ _).mono (fun _ h c => ⟨((h.1.1 c).1 9).trans (Cert.Retention.final m c), h.2.1 c⟩)
      (θ_run_and (Cert.Retention.run (F := Ideal) m ρ) (Cert.Retention.frame (F := Ideal) m ρ))
  · refine (θ_run Cert.Reference8Ideal.defs _ _).mono (fun _ h c => ⟨?_, (h c).2⟩) (Cert.Retention.Ref.run m' ρ')
    refine ((h c).1.trans (Cert.Retention.Ref.reference_eq m' c)).trans ?_
    rw [(hagree c).1, (hagree c).2.1, (hagree c).2.2]

/-- Everything that the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    fun m ρ _ => Cert.Kernel.Gen.frame m ρ, fun m ρ _ => Cert.KernelIdeal.Gen.frame m ρ, reference_quiet,
    fun m ρ _ => Cert.Kernel2.Gen.frame m ρ, fun m ρ _ => Cert.Kernel2Ideal.Gen.frame m ρ, reference2_quiet,
    fun m ρ _ => Cert.Kernel3.Gen.frame m ρ, fun m ρ _ => Cert.Kernel3Ideal.Gen.frame m ρ, reference3_quiet,
    fun m ρ _ => Cert.Kernel4.Gen.frame m ρ, fun m ρ _ => Cert.Kernel4Ideal.Gen.frame m ρ, reference4_quiet,
    fun m ρ _ => Cert.Kernel5.Gen.frame m ρ, fun m ρ _ => Cert.Kernel5Ideal.Gen.frame m ρ, reference5_quiet,
    fun m ρ _ => Cert.Kernel6.Gen.frame m ρ, fun m ρ _ => Cert.Kernel6Ideal.Gen.frame m ρ, reference6_quiet,
    fun m ρ _ => Cert.Kernel7.Gen.frame m ρ, fun m ρ _ => Cert.Kernel7Ideal.Gen.frame m ρ, reference7_quiet,
    kernel8_quiet, kernel8_ideal_quiet, reference8_quiet,
    (trivial : preserves_Kernel_KernelIdeal), value,
    (trivial : preserves_Kernel2_Kernel2Ideal), value2,
    (trivial : preserves_Kernel3_Kernel3Ideal), value3,
    (trivial : preserves_Kernel4_Kernel4Ideal), value4,
    (trivial : preserves_Kernel5_Kernel5Ideal), value5,
    (trivial : preserves_Kernel6_Kernel6Ideal), value6,
    (trivial : preserves_Kernel7_Kernel7Ideal), value7,
    (trivial : preserves_Kernel8_Kernel8Ideal), value8⟩

end Cert.Proof

end

end
